-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S4x3x128x128 : Shape := ⟨4, ![4, 3, 128, 128]⟩
abbrev S4x3 : Shape := ⟨2, ![4, 3]⟩
abbrev S_ : Shape := ⟨0, ![]⟩
abbrev S256x128 : Shape := ⟨2, ![256, 128]⟩
abbrev S512x128 : Shape := ⟨2, ![512, 128]⟩
abbrev S1x1 : Shape := ⟨2, ![1, 1]⟩
abbrev S1x1x128x128 : Shape := ⟨4, ![1, 1, 128, 128]⟩
abbrev S128x128 : Shape := ⟨2, ![128, 128]⟩

abbrev nBuf : Space → Nat
  | .hbm => 3
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S512x512, .bf16⟩
  | .local _ .vmem, ⟨4, _⟩ => ⟨S4x3x128x128, .bf16⟩
  | .local _ .vmem, ⟨5, _⟩ => ⟨S4x3x128x128, .bf16⟩
  | .local _ .vmem, ⟨6, _⟩ => ⟨S512x256, .bf16⟩
  | .local _ .vmem, ⟨7, _⟩ => ⟨S256x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_41 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v62 : BitVec 32 := Scalar.addi v2 c2_i32_41
  let c4_i32_42 : BitVec 32 := 4#32
  let c0_i32_43 : BitVec 32 := 0#32
  let v63 : BitVec 1 := Scalar.cmpi .eq c4_i32_42 c0_i32_43
  let c1_i32_44 : BitVec 32 := 1#32
  let v64 : BitVec 32 := Scalar.select v63 c1_i32_44 c4_i32_42
  let v65 : BitVec 32 := Scalar.remsi v62 v64
  let c0_i32_46 : BitVec 32 := 0#32
  let v67 : BitVec 1 := Scalar.cmpi .slt v65 c0_i32_46
  let c0_i32_47 : BitVec 32 := 0#32
  let v68 : BitVec 1 := Scalar.cmpi .slt v64 c0_i32_47
  let v69 : BitVec 1 := Scalar.xori v67 v68
  let c0_i32_45 : BitVec 32 := 0#32
  let v66 : BitVec 1 := Scalar.cmpi .ne v65 c0_i32_45
  let v70 : BitVec 1 := Scalar.andi v69 v66
  let v71 : BitVec 32 := Scalar.addi v65 v64
  let v72 : BitVec 32 := Scalar.select v70 v71 v65
  let c128_i32 : BitVec 32 := 128#32
  let v73 : BitVec 32 := Scalar.muli v72 c128_i32
  let c0_i32_58 : BitVec 32 := 0#32
  ![v73.toNat, 0]
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_41 : BitVec 32 := 2#32
  let v62 : BitVec 32 := Scalar.addi v2 c2_i32_41
  let c4_i32_42 : BitVec 32 := 4#32
  let c0_i32_43 : BitVec 32 := 0#32
  let v63 : BitVec 1 := Scalar.cmpi .eq c4_i32_42 c0_i32_43
  let c1_i32_44 : BitVec 32 := 1#32
  let v64 : BitVec 32 := Scalar.select v63 c1_i32_44 c4_i32_42
  let v65 : BitVec 32 := Scalar.remsi v62 v64
  let c0_i32_46 : BitVec 32 := 0#32
  let v67 : BitVec 1 := Scalar.cmpi .slt v65 c0_i32_46
  let c0_i32_47 : BitVec 32 := 0#32
  let v68 : BitVec 1 := Scalar.cmpi .slt v64 c0_i32_47
  let v69 : BitVec 1 := Scalar.xori v67 v68
  let c0_i32_45 : BitVec 32 := 0#32
  let v66 : BitVec 1 := Scalar.cmpi .ne v65 c0_i32_45
  let v70 : BitVec 1 := Scalar.andi v69 v66
  let v71 : BitVec 32 := Scalar.addi v65 v64
  let v72 : BitVec 32 := Scalar.select v70 v71 v65
  let c1_i32_54 : BitVec 32 := 1#32
  let v74 : BitVec 32 := Scalar.muli v72 c1_i32_54
  let v75 : BitVec 32 := Scalar.addi c0_i32_55 v74
  v75.toNat
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_59 : BitVec 32 := 1#32
  let v83 : BitVec 32 := Scalar.addi v2 c1_i32_59
  let c4_i32_60 : BitVec 32 := 4#32
  let c0_i32_61 : BitVec 32 := 0#32
  let v84 : BitVec 1 := Scalar.cmpi .eq c4_i32_60 c0_i32_61
  let c1_i32_62 : BitVec 32 := 1#32
  let v85 : BitVec 32 := Scalar.select v84 c1_i32_62 c4_i32_60
  let v86 : BitVec 32 := Scalar.remsi v83 v85
  let c0_i32_64 : BitVec 32 := 0#32
  let v88 : BitVec 1 := Scalar.cmpi .slt v86 c0_i32_64
  let c0_i32_65 : BitVec 32 := 0#32
  let v89 : BitVec 1 := Scalar.cmpi .slt v85 c0_i32_65
  let v90 : BitVec 1 := Scalar.xori v88 v89
  let c0_i32_63 : BitVec 32 := 0#32
  let v87 : BitVec 1 := Scalar.cmpi .ne v86 c0_i32_63
  let v91 : BitVec 1 := Scalar.andi v90 v87
  let v92 : BitVec 32 := Scalar.addi v86 v85
  let v93 : BitVec 32 := Scalar.select v91 v92 v86
  let c1_i32_73 : BitVec 32 := 1#32
  let v95 : BitVec 32 := Scalar.muli v93 c1_i32_73
  let v96 : BitVec 32 := Scalar.addi c0_i32_74 v95
  v96.toNat
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_78 : BitVec 32 := 3#32
  let v104 : BitVec 32 := Scalar.addi v2 c3_i32_78
  let c4_i32_79 : BitVec 32 := 4#32
  let c0_i32_80 : BitVec 32 := 0#32
  let v105 : BitVec 1 := Scalar.cmpi .eq c4_i32_79 c0_i32_80
  let c1_i32_81 : BitVec 32 := 1#32
  let v106 : BitVec 32 := Scalar.select v105 c1_i32_81 c4_i32_79
  let v107 : BitVec 32 := Scalar.remsi v104 v106
  let c0_i32_83 : BitVec 32 := 0#32
  let v109 : BitVec 1 := Scalar.cmpi .slt v107 c0_i32_83
  let c0_i32_84 : BitVec 32 := 0#32
  let v110 : BitVec 1 := Scalar.cmpi .slt v106 c0_i32_84
  let v111 : BitVec 1 := Scalar.xori v109 v110
  let c0_i32_82 : BitVec 32 := 0#32
  let v108 : BitVec 1 := Scalar.cmpi .ne v107 c0_i32_82
  let v112 : BitVec 1 := Scalar.andi v111 v108
  let v113 : BitVec 32 := Scalar.addi v107 v106
  let v114 : BitVec 32 := Scalar.select v112 v113 v107
  let c1_i32_92 : BitVec 32 := 1#32
  let v116 : BitVec 32 := Scalar.muli v114 c1_i32_92
  let v117 : BitVec 32 := Scalar.addi c0_i32_93 v116
  v117.toNat
def k0_off2 (d0 : Dev nD) (c2_i32_103 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v132 : BitVec 32 := Scalar.addi v2 c2_i32_103
  let c4_i32_104 : BitVec 32 := 4#32
  let c0_i32_105 : BitVec 32 := 0#32
  let v133 : BitVec 1 := Scalar.cmpi .eq c4_i32_104 c0_i32_105
  let c1_i32_106 : BitVec 32 := 1#32
  let v134 : BitVec 32 := Scalar.select v133 c1_i32_106 c4_i32_104
  let v135 : BitVec 32 := Scalar.remsi v132 v134
  let c0_i32_108 : BitVec 32 := 0#32
  let v137 : BitVec 1 := Scalar.cmpi .slt v135 c0_i32_108
  let c0_i32_109 : BitVec 32 := 0#32
  let v138 : BitVec 1 := Scalar.cmpi .slt v134 c0_i32_109
  let v139 : BitVec 1 := Scalar.xori v137 v138
  let c0_i32_107 : BitVec 32 := 0#32
  let v136 : BitVec 1 := Scalar.cmpi .ne v135 c0_i32_107
  let v140 : BitVec 1 := Scalar.andi v139 v136
  let v141 : BitVec 32 := Scalar.addi v135 v134
  let v142 : BitVec 32 := Scalar.select v140 v141 v135
  let c128_i32_110 : BitVec 32 := 128#32
  let v143 : BitVec 32 := Scalar.muli v142 c128_i32_110
  let c128_i32_121 : BitVec 32 := 128#32
  ![v143.toNat, 128]
def k0_dev7 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_103 : BitVec 32 := 2#32
  let v132 : BitVec 32 := Scalar.addi v2 c2_i32_103
  let c4_i32_104 : BitVec 32 := 4#32
  let c0_i32_105 : BitVec 32 := 0#32
  let v133 : BitVec 1 := Scalar.cmpi .eq c4_i32_104 c0_i32_105
  let c1_i32_106 : BitVec 32 := 1#32
  let v134 : BitVec 32 := Scalar.select v133 c1_i32_106 c4_i32_104
  let v135 : BitVec 32 := Scalar.remsi v132 v134
  let c0_i32_108 : BitVec 32 := 0#32
  let v137 : BitVec 1 := Scalar.cmpi .slt v135 c0_i32_108
  let c0_i32_109 : BitVec 32 := 0#32
  let v138 : BitVec 1 := Scalar.cmpi .slt v134 c0_i32_109
  let v139 : BitVec 1 := Scalar.xori v137 v138
  let c0_i32_107 : BitVec 32 := 0#32
  let v136 : BitVec 1 := Scalar.cmpi .ne v135 c0_i32_107
  let v140 : BitVec 1 := Scalar.andi v139 v136
  let v141 : BitVec 32 := Scalar.addi v135 v134
  let v142 : BitVec 32 := Scalar.select v140 v141 v135
  let c1_i32_117 : BitVec 32 := 1#32
  let v144 : BitVec 32 := Scalar.muli v142 c1_i32_117
  let v145 : BitVec 32 := Scalar.addi c0_i32_118 v144
  v145.toNat
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_122 : BitVec 32 := 1#32
  let v153 : BitVec 32 := Scalar.addi v2 c1_i32_122
  let c4_i32_123 : BitVec 32 := 4#32
  let c0_i32_124 : BitVec 32 := 0#32
  let v154 : BitVec 1 := Scalar.cmpi .eq c4_i32_123 c0_i32_124
  let c1_i32_125 : BitVec 32 := 1#32
  let v155 : BitVec 32 := Scalar.select v154 c1_i32_125 c4_i32_123
  let v156 : BitVec 32 := Scalar.remsi v153 v155
  let c0_i32_127 : BitVec 32 := 0#32
  let v158 : BitVec 1 := Scalar.cmpi .slt v156 c0_i32_127
  let c0_i32_128 : BitVec 32 := 0#32
  let v159 : BitVec 1 := Scalar.cmpi .slt v155 c0_i32_128
  let v160 : BitVec 1 := Scalar.xori v158 v159
  let c0_i32_126 : BitVec 32 := 0#32
  let v157 : BitVec 1 := Scalar.cmpi .ne v156 c0_i32_126
  let v161 : BitVec 1 := Scalar.andi v160 v157
  let v162 : BitVec 32 := Scalar.addi v156 v155
  let v163 : BitVec 32 := Scalar.select v161 v162 v156
  let c1_i32_136 : BitVec 32 := 1#32
  let v165 : BitVec 32 := Scalar.muli v163 c1_i32_136
  let v166 : BitVec 32 := Scalar.addi c0_i32_137 v165
  v166.toNat
def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_141 : BitVec 32 := 3#32
  let v174 : BitVec 32 := Scalar.addi v2 c3_i32_141
  let c4_i32_142 : BitVec 32 := 4#32
  let c0_i32_143 : BitVec 32 := 0#32
  let v175 : BitVec 1 := Scalar.cmpi .eq c4_i32_142 c0_i32_143
  let c1_i32_144 : BitVec 32 := 1#32
  let v176 : BitVec 32 := Scalar.select v175 c1_i32_144 c4_i32_142
  let v177 : BitVec 32 := Scalar.remsi v174 v176
  let c0_i32_146 : BitVec 32 := 0#32
  let v179 : BitVec 1 := Scalar.cmpi .slt v177 c0_i32_146
  let c0_i32_147 : BitVec 32 := 0#32
  let v180 : BitVec 1 := Scalar.cmpi .slt v176 c0_i32_147
  let v181 : BitVec 1 := Scalar.xori v179 v180
  let c0_i32_145 : BitVec 32 := 0#32
  let v178 : BitVec 1 := Scalar.cmpi .ne v177 c0_i32_145
  let v182 : BitVec 1 := Scalar.andi v181 v178
  let v183 : BitVec 32 := Scalar.addi v177 v176
  let v184 : BitVec 32 := Scalar.select v182 v183 v177
  let c1_i32_155 : BitVec 32 := 1#32
  let v186 : BitVec 32 := Scalar.muli v184 c1_i32_155
  let v187 : BitVec 32 := Scalar.addi c0_i32_156 v186
  v187.toNat
def k0_off3 (d0 : Dev nD) (c2_i32_166 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v202 : BitVec 32 := Scalar.addi v2 c2_i32_166
  let c4_i32_167 : BitVec 32 := 4#32
  let c0_i32_168 : BitVec 32 := 0#32
  let v203 : BitVec 1 := Scalar.cmpi .eq c4_i32_167 c0_i32_168
  let c1_i32_169 : BitVec 32 := 1#32
  let v204 : BitVec 32 := Scalar.select v203 c1_i32_169 c4_i32_167
  let v205 : BitVec 32 := Scalar.remsi v202 v204
  let c0_i32_171 : BitVec 32 := 0#32
  let v207 : BitVec 1 := Scalar.cmpi .slt v205 c0_i32_171
  let c0_i32_172 : BitVec 32 := 0#32
  let v208 : BitVec 1 := Scalar.cmpi .slt v204 c0_i32_172
  let v209 : BitVec 1 := Scalar.xori v207 v208
  let c0_i32_170 : BitVec 32 := 0#32
  let v206 : BitVec 1 := Scalar.cmpi .ne v205 c0_i32_170
  let v210 : BitVec 1 := Scalar.andi v209 v206
  let v211 : BitVec 32 := Scalar.addi v205 v204
  let v212 : BitVec 32 := Scalar.select v210 v211 v205
  let c128_i32_173 : BitVec 32 := 128#32
  let v213 : BitVec 32 := Scalar.muli v212 c128_i32_173
  let c256_i32 : BitVec 32 := 256#32
  ![v213.toNat, 256]
def k0_dev10 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_166 : BitVec 32 := 2#32
  let v202 : BitVec 32 := Scalar.addi v2 c2_i32_166
  let c4_i32_167 : BitVec 32 := 4#32
  let c0_i32_168 : BitVec 32 := 0#32
  let v203 : BitVec 1 := Scalar.cmpi .eq c4_i32_167 c0_i32_168
  let c1_i32_169 : BitVec 32 := 1#32
  let v204 : BitVec 32 := Scalar.select v203 c1_i32_169 c4_i32_167
  let v205 : BitVec 32 := Scalar.remsi v202 v204
  let c0_i32_171 : BitVec 32 := 0#32
  let v207 : BitVec 1 := Scalar.cmpi .slt v205 c0_i32_171
  let c0_i32_172 : BitVec 32 := 0#32
  let v208 : BitVec 1 := Scalar.cmpi .slt v204 c0_i32_172
  let v209 : BitVec 1 := Scalar.xori v207 v208
  let c0_i32_170 : BitVec 32 := 0#32
  let v206 : BitVec 1 := Scalar.cmpi .ne v205 c0_i32_170
  let v210 : BitVec 1 := Scalar.andi v209 v206
  let v211 : BitVec 32 := Scalar.addi v205 v204
  let v212 : BitVec 32 := Scalar.select v210 v211 v205
  let c1_i32_180 : BitVec 32 := 1#32
  let v214 : BitVec 32 := Scalar.muli v212 c1_i32_180
  let v215 : BitVec 32 := Scalar.addi c0_i32_181 v214
  v215.toNat
def k0_dev11 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_184 : BitVec 32 := 1#32
  let v223 : BitVec 32 := Scalar.addi v2 c1_i32_184
  let c4_i32_185 : BitVec 32 := 4#32
  let c0_i32_186 : BitVec 32 := 0#32
  let v224 : BitVec 1 := Scalar.cmpi .eq c4_i32_185 c0_i32_186
  let c1_i32_187 : BitVec 32 := 1#32
  let v225 : BitVec 32 := Scalar.select v224 c1_i32_187 c4_i32_185
  let v226 : BitVec 32 := Scalar.remsi v223 v225
  let c0_i32_189 : BitVec 32 := 0#32
  let v228 : BitVec 1 := Scalar.cmpi .slt v226 c0_i32_189
  let c0_i32_190 : BitVec 32 := 0#32
  let v229 : BitVec 1 := Scalar.cmpi .slt v225 c0_i32_190
  let v230 : BitVec 1 := Scalar.xori v228 v229
  let c0_i32_188 : BitVec 32 := 0#32
  let v227 : BitVec 1 := Scalar.cmpi .ne v226 c0_i32_188
  let v231 : BitVec 1 := Scalar.andi v230 v227
  let v232 : BitVec 32 := Scalar.addi v226 v225
  let v233 : BitVec 32 := Scalar.select v231 v232 v226
  let c1_i32_198 : BitVec 32 := 1#32
  let v235 : BitVec 32 := Scalar.muli v233 c1_i32_198
  let v236 : BitVec 32 := Scalar.addi c0_i32_199 v235
  v236.toNat
def k0_dev12 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_203 : BitVec 32 := 3#32
  let v244 : BitVec 32 := Scalar.addi v2 c3_i32_203
  let c4_i32_204 : BitVec 32 := 4#32
  let c0_i32_205 : BitVec 32 := 0#32
  let v245 : BitVec 1 := Scalar.cmpi .eq c4_i32_204 c0_i32_205
  let c1_i32_206 : BitVec 32 := 1#32
  let v246 : BitVec 32 := Scalar.select v245 c1_i32_206 c4_i32_204
  let v247 : BitVec 32 := Scalar.remsi v244 v246
  let c0_i32_208 : BitVec 32 := 0#32
  let v249 : BitVec 1 := Scalar.cmpi .slt v247 c0_i32_208
  let c0_i32_209 : BitVec 32 := 0#32
  let v250 : BitVec 1 := Scalar.cmpi .slt v246 c0_i32_209
  let v251 : BitVec 1 := Scalar.xori v249 v250
  let c0_i32_207 : BitVec 32 := 0#32
  let v248 : BitVec 1 := Scalar.cmpi .ne v247 c0_i32_207
  let v252 : BitVec 1 := Scalar.andi v251 v248
  let v253 : BitVec 32 := Scalar.addi v247 v246
  let v254 : BitVec 32 := Scalar.select v252 v253 v247
  let c1_i32_217 : BitVec 32 := 1#32
  let v256 : BitVec 32 := Scalar.muli v254 c1_i32_217
  let v257 : BitVec 32 := Scalar.addi c0_i32_218 v256
  v257.toNat
def k0_off4 (d0 : Dev nD) (c2_i32_228 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v272 : BitVec 32 := Scalar.addi v2 c2_i32_228
  let c4_i32_229 : BitVec 32 := 4#32
  let c0_i32_230 : BitVec 32 := 0#32
  let v273 : BitVec 1 := Scalar.cmpi .eq c4_i32_229 c0_i32_230
  let c1_i32_231 : BitVec 32 := 1#32
  let v274 : BitVec 32 := Scalar.select v273 c1_i32_231 c4_i32_229
  let v275 : BitVec 32 := Scalar.remsi v272 v274
  let c0_i32_233 : BitVec 32 := 0#32
  let v277 : BitVec 1 := Scalar.cmpi .slt v275 c0_i32_233
  let c0_i32_234 : BitVec 32 := 0#32
  let v278 : BitVec 1 := Scalar.cmpi .slt v274 c0_i32_234
  let v279 : BitVec 1 := Scalar.xori v277 v278
  let c0_i32_232 : BitVec 32 := 0#32
  let v276 : BitVec 1 := Scalar.cmpi .ne v275 c0_i32_232
  let v280 : BitVec 1 := Scalar.andi v279 v276
  let v281 : BitVec 32 := Scalar.addi v275 v274
  let v282 : BitVec 32 := Scalar.select v280 v281 v275
  let c128_i32_235 : BitVec 32 := 128#32
  let v283 : BitVec 32 := Scalar.muli v282 c128_i32_235
  let c384_i32 : BitVec 32 := 384#32
  ![v283.toNat, 384]
def k0_dev13 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_228 : BitVec 32 := 2#32
  let v272 : BitVec 32 := Scalar.addi v2 c2_i32_228
  let c4_i32_229 : BitVec 32 := 4#32
  let c0_i32_230 : BitVec 32 := 0#32
  let v273 : BitVec 1 := Scalar.cmpi .eq c4_i32_229 c0_i32_230
  let c1_i32_231 : BitVec 32 := 1#32
  let v274 : BitVec 32 := Scalar.select v273 c1_i32_231 c4_i32_229
  let v275 : BitVec 32 := Scalar.remsi v272 v274
  let c0_i32_233 : BitVec 32 := 0#32
  let v277 : BitVec 1 := Scalar.cmpi .slt v275 c0_i32_233
  let c0_i32_234 : BitVec 32 := 0#32
  let v278 : BitVec 1 := Scalar.cmpi .slt v274 c0_i32_234
  let v279 : BitVec 1 := Scalar.xori v277 v278
  let c0_i32_232 : BitVec 32 := 0#32
  let v276 : BitVec 1 := Scalar.cmpi .ne v275 c0_i32_232
  let v280 : BitVec 1 := Scalar.andi v279 v276
  let v281 : BitVec 32 := Scalar.addi v275 v274
  let v282 : BitVec 32 := Scalar.select v280 v281 v275
  let c1_i32_242 : BitVec 32 := 1#32
  let v284 : BitVec 32 := Scalar.muli v282 c1_i32_242
  let v285 : BitVec 32 := Scalar.addi c0_i32_243 v284
  v285.toNat
def k0_dev14 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_246 : BitVec 32 := 1#32
  let v293 : BitVec 32 := Scalar.addi v2 c1_i32_246
  let c4_i32_247 : BitVec 32 := 4#32
  let c0_i32_248 : BitVec 32 := 0#32
  let v294 : BitVec 1 := Scalar.cmpi .eq c4_i32_247 c0_i32_248
  let c1_i32_249 : BitVec 32 := 1#32
  let v295 : BitVec 32 := Scalar.select v294 c1_i32_249 c4_i32_247
  let v296 : BitVec 32 := Scalar.remsi v293 v295
  let c0_i32_251 : BitVec 32 := 0#32
  let v298 : BitVec 1 := Scalar.cmpi .slt v296 c0_i32_251
  let c0_i32_252 : BitVec 32 := 0#32
  let v299 : BitVec 1 := Scalar.cmpi .slt v295 c0_i32_252
  let v300 : BitVec 1 := Scalar.xori v298 v299
  let c0_i32_250 : BitVec 32 := 0#32
  let v297 : BitVec 1 := Scalar.cmpi .ne v296 c0_i32_250
  let v301 : BitVec 1 := Scalar.andi v300 v297
  let v302 : BitVec 32 := Scalar.addi v296 v295
  let v303 : BitVec 32 := Scalar.select v301 v302 v296
  let c1_i32_260 : BitVec 32 := 1#32
  let v305 : BitVec 32 := Scalar.muli v303 c1_i32_260
  let v306 : BitVec 32 := Scalar.addi c0_i32_261 v305
  v306.toNat
def k0_dev15 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_265 : BitVec 32 := 3#32
  let v314 : BitVec 32 := Scalar.addi v2 c3_i32_265
  let c4_i32_266 : BitVec 32 := 4#32
  let c0_i32_267 : BitVec 32 := 0#32
  let v315 : BitVec 1 := Scalar.cmpi .eq c4_i32_266 c0_i32_267
  let c1_i32_268 : BitVec 32 := 1#32
  let v316 : BitVec 32 := Scalar.select v315 c1_i32_268 c4_i32_266
  let v317 : BitVec 32 := Scalar.remsi v314 v316
  let c0_i32_270 : BitVec 32 := 0#32
  let v319 : BitVec 1 := Scalar.cmpi .slt v317 c0_i32_270
  let c0_i32_271 : BitVec 32 := 0#32
  let v320 : BitVec 1 := Scalar.cmpi .slt v316 c0_i32_271
  let v321 : BitVec 1 := Scalar.xori v319 v320
  let c0_i32_269 : BitVec 32 := 0#32
  let v318 : BitVec 1 := Scalar.cmpi .ne v317 c0_i32_269
  let v322 : BitVec 1 := Scalar.andi v321 v318
  let v323 : BitVec 32 := Scalar.addi v317 v316
  let v324 : BitVec 32 := Scalar.select v322 v323 v317
  let c1_i32_279 : BitVec 32 := 1#32
  let v326 : BitVec 32 := Scalar.muli v324 c1_i32_279
  let v327 : BitVec 32 := Scalar.addi c0_i32_280 v326
  v327.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_317 : BitVec 32 := 128#32
  let v356 : BitVec 32 := Scalar.muli v2 c128_i32_317
  let v357 : Index := Scalar.indexCast v356
  let c0_318 : Index := 0#32
  ![v357.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_338 : BitVec 32 := 128#32
  let v389 : BitVec 32 := Scalar.muli v2 c128_i32_338
  let c0_i32_349 : BitVec 32 := 0#32
  ![v389.toNat, 0]
def k0_dev16 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_331 : BitVec 32 := 2#32
  let v378 : BitVec 32 := Scalar.addi v2 c2_i32_331
  let c4_i32_332 : BitVec 32 := 4#32
  let c0_i32_333 : BitVec 32 := 0#32
  let v379 : BitVec 1 := Scalar.cmpi .eq c4_i32_332 c0_i32_333
  let c1_i32_334 : BitVec 32 := 1#32
  let v380 : BitVec 32 := Scalar.select v379 c1_i32_334 c4_i32_332
  let v381 : BitVec 32 := Scalar.remsi v378 v380
  let c0_i32_336 : BitVec 32 := 0#32
  let v383 : BitVec 1 := Scalar.cmpi .slt v381 c0_i32_336
  let c0_i32_337 : BitVec 32 := 0#32
  let v384 : BitVec 1 := Scalar.cmpi .slt v380 c0_i32_337
  let v385 : BitVec 1 := Scalar.xori v383 v384
  let c0_i32_335 : BitVec 32 := 0#32
  let v382 : BitVec 1 := Scalar.cmpi .ne v381 c0_i32_335
  let v386 : BitVec 1 := Scalar.andi v385 v382
  let v387 : BitVec 32 := Scalar.addi v381 v380
  let v388 : BitVec 32 := Scalar.select v386 v387 v381
  let c1_i32_345 : BitVec 32 := 1#32
  let v390 : BitVec 32 := Scalar.muli v388 c1_i32_345
  let v391 : BitVec 32 := Scalar.addi c0_i32_346 v390
  v391.toNat
def k0_dev17 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_350 : BitVec 32 := 1#32
  let v399 : BitVec 32 := Scalar.addi v2 c1_i32_350
  let c4_i32_351 : BitVec 32 := 4#32
  let c0_i32_352 : BitVec 32 := 0#32
  let v400 : BitVec 1 := Scalar.cmpi .eq c4_i32_351 c0_i32_352
  let c1_i32_353 : BitVec 32 := 1#32
  let v401 : BitVec 32 := Scalar.select v400 c1_i32_353 c4_i32_351
  let v402 : BitVec 32 := Scalar.remsi v399 v401
  let c0_i32_355 : BitVec 32 := 0#32
  let v404 : BitVec 1 := Scalar.cmpi .slt v402 c0_i32_355
  let c0_i32_356 : BitVec 32 := 0#32
  let v405 : BitVec 1 := Scalar.cmpi .slt v401 c0_i32_356
  let v406 : BitVec 1 := Scalar.xori v404 v405
  let c0_i32_354 : BitVec 32 := 0#32
  let v403 : BitVec 1 := Scalar.cmpi .ne v402 c0_i32_354
  let v407 : BitVec 1 := Scalar.andi v406 v403
  let v408 : BitVec 32 := Scalar.addi v402 v401
  let v409 : BitVec 32 := Scalar.select v407 v408 v402
  let c1_i32_364 : BitVec 32 := 1#32
  let v411 : BitVec 32 := Scalar.muli v409 c1_i32_364
  let v412 : BitVec 32 := Scalar.addi c0_i32_365 v411
  v412.toNat
def k0_dev18 (d0 : Dev nD) : Nat :=
  let c0_i32_384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_369 : BitVec 32 := 3#32
  let v420 : BitVec 32 := Scalar.addi v2 c3_i32_369
  let c4_i32_370 : BitVec 32 := 4#32
  let c0_i32_371 : BitVec 32 := 0#32
  let v421 : BitVec 1 := Scalar.cmpi .eq c4_i32_370 c0_i32_371
  let c1_i32_372 : BitVec 32 := 1#32
  let v422 : BitVec 32 := Scalar.select v421 c1_i32_372 c4_i32_370
  let v423 : BitVec 32 := Scalar.remsi v420 v422
  let c0_i32_374 : BitVec 32 := 0#32
  let v425 : BitVec 1 := Scalar.cmpi .slt v423 c0_i32_374
  let c0_i32_375 : BitVec 32 := 0#32
  let v426 : BitVec 1 := Scalar.cmpi .slt v422 c0_i32_375
  let v427 : BitVec 1 := Scalar.xori v425 v426
  let c0_i32_373 : BitVec 32 := 0#32
  let v424 : BitVec 1 := Scalar.cmpi .ne v423 c0_i32_373
  let v428 : BitVec 1 := Scalar.andi v427 v424
  let v429 : BitVec 32 := Scalar.addi v423 v422
  let v430 : BitVec 32 := Scalar.select v428 v429 v423
  let c1_i32_383 : BitVec 32 := 1#32
  let v432 : BitVec 32 := Scalar.muli v430 c1_i32_383
  let v433 : BitVec 32 := Scalar.addi c0_i32_384 v432
  v433.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_423 : BitVec 32 := 128#32
  let v465 : BitVec 32 := Scalar.muli v2 c128_i32_423
  let v466 : Index := Scalar.indexCast v465
  let c128_424 : Index := 128#32
  ![v466.toNat, 128]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_446 : BitVec 32 := 128#32
  let v498 : BitVec 32 := Scalar.muli v2 c128_i32_446
  let c128_i32_457 : BitVec 32 := 128#32
  ![v498.toNat, 128]
def k0_dev19 (d0 : Dev nD) : Nat :=
  let c0_i32_454 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_439 : BitVec 32 := 2#32
  let v487 : BitVec 32 := Scalar.addi v2 c2_i32_439
  let c4_i32_440 : BitVec 32 := 4#32
  let c0_i32_441 : BitVec 32 := 0#32
  let v488 : BitVec 1 := Scalar.cmpi .eq c4_i32_440 c0_i32_441
  let c1_i32_442 : BitVec 32 := 1#32
  let v489 : BitVec 32 := Scalar.select v488 c1_i32_442 c4_i32_440
  let v490 : BitVec 32 := Scalar.remsi v487 v489
  let c0_i32_444 : BitVec 32 := 0#32
  let v492 : BitVec 1 := Scalar.cmpi .slt v490 c0_i32_444
  let c0_i32_445 : BitVec 32 := 0#32
  let v493 : BitVec 1 := Scalar.cmpi .slt v489 c0_i32_445
  let v494 : BitVec 1 := Scalar.xori v492 v493
  let c0_i32_443 : BitVec 32 := 0#32
  let v491 : BitVec 1 := Scalar.cmpi .ne v490 c0_i32_443
  let v495 : BitVec 1 := Scalar.andi v494 v491
  let v496 : BitVec 32 := Scalar.addi v490 v489
  let v497 : BitVec 32 := Scalar.select v495 v496 v490
  let c1_i32_453 : BitVec 32 := 1#32
  let v499 : BitVec 32 := Scalar.muli v497 c1_i32_453
  let v500 : BitVec 32 := Scalar.addi c0_i32_454 v499
  v500.toNat
def k0_dev20 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_458 : BitVec 32 := 1#32
  let v508 : BitVec 32 := Scalar.addi v2 c1_i32_458
  let c4_i32_459 : BitVec 32 := 4#32
  let c0_i32_460 : BitVec 32 := 0#32
  let v509 : BitVec 1 := Scalar.cmpi .eq c4_i32_459 c0_i32_460
  let c1_i32_461 : BitVec 32 := 1#32
  let v510 : BitVec 32 := Scalar.select v509 c1_i32_461 c4_i32_459
  let v511 : BitVec 32 := Scalar.remsi v508 v510
  let c0_i32_463 : BitVec 32 := 0#32
  let v513 : BitVec 1 := Scalar.cmpi .slt v511 c0_i32_463
  let c0_i32_464 : BitVec 32 := 0#32
  let v514 : BitVec 1 := Scalar.cmpi .slt v510 c0_i32_464
  let v515 : BitVec 1 := Scalar.xori v513 v514
  let c0_i32_462 : BitVec 32 := 0#32
  let v512 : BitVec 1 := Scalar.cmpi .ne v511 c0_i32_462
  let v516 : BitVec 1 := Scalar.andi v515 v512
  let v517 : BitVec 32 := Scalar.addi v511 v510
  let v518 : BitVec 32 := Scalar.select v516 v517 v511
  let c1_i32_472 : BitVec 32 := 1#32
  let v520 : BitVec 32 := Scalar.muli v518 c1_i32_472
  let v521 : BitVec 32 := Scalar.addi c0_i32_473 v520
  v521.toNat
def k0_dev21 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_477 : BitVec 32 := 3#32
  let v529 : BitVec 32 := Scalar.addi v2 c3_i32_477
  let c4_i32_478 : BitVec 32 := 4#32
  let c0_i32_479 : BitVec 32 := 0#32
  let v530 : BitVec 1 := Scalar.cmpi .eq c4_i32_478 c0_i32_479
  let c1_i32_480 : BitVec 32 := 1#32
  let v531 : BitVec 32 := Scalar.select v530 c1_i32_480 c4_i32_478
  let v532 : BitVec 32 := Scalar.remsi v529 v531
  let c0_i32_482 : BitVec 32 := 0#32
  let v534 : BitVec 1 := Scalar.cmpi .slt v532 c0_i32_482
  let c0_i32_483 : BitVec 32 := 0#32
  let v535 : BitVec 1 := Scalar.cmpi .slt v531 c0_i32_483
  let v536 : BitVec 1 := Scalar.xori v534 v535
  let c0_i32_481 : BitVec 32 := 0#32
  let v533 : BitVec 1 := Scalar.cmpi .ne v532 c0_i32_481
  let v537 : BitVec 1 := Scalar.andi v536 v533
  let v538 : BitVec 32 := Scalar.addi v532 v531
  let v539 : BitVec 32 := Scalar.select v537 v538 v532
  let c1_i32_491 : BitVec 32 := 1#32
  let v541 : BitVec 32 := Scalar.muli v539 c1_i32_491
  let v542 : BitVec 32 := Scalar.addi c0_i32_492 v541
  v542.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_531 : BitVec 32 := 128#32
  let v574 : BitVec 32 := Scalar.muli v2 c128_i32_531
  let v575 : Index := Scalar.indexCast v574
  let c256_532 : Index := 256#32
  ![v575.toNat, 256]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_554 : BitVec 32 := 128#32
  let v607 : BitVec 32 := Scalar.muli v2 c128_i32_554
  let c256_i32_565 : BitVec 32 := 256#32
  ![v607.toNat, 256]
def k0_dev22 (d0 : Dev nD) : Nat :=
  let c0_i32_562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_547 : BitVec 32 := 2#32
  let v596 : BitVec 32 := Scalar.addi v2 c2_i32_547
  let c4_i32_548 : BitVec 32 := 4#32
  let c0_i32_549 : BitVec 32 := 0#32
  let v597 : BitVec 1 := Scalar.cmpi .eq c4_i32_548 c0_i32_549
  let c1_i32_550 : BitVec 32 := 1#32
  let v598 : BitVec 32 := Scalar.select v597 c1_i32_550 c4_i32_548
  let v599 : BitVec 32 := Scalar.remsi v596 v598
  let c0_i32_552 : BitVec 32 := 0#32
  let v601 : BitVec 1 := Scalar.cmpi .slt v599 c0_i32_552
  let c0_i32_553 : BitVec 32 := 0#32
  let v602 : BitVec 1 := Scalar.cmpi .slt v598 c0_i32_553
  let v603 : BitVec 1 := Scalar.xori v601 v602
  let c0_i32_551 : BitVec 32 := 0#32
  let v600 : BitVec 1 := Scalar.cmpi .ne v599 c0_i32_551
  let v604 : BitVec 1 := Scalar.andi v603 v600
  let v605 : BitVec 32 := Scalar.addi v599 v598
  let v606 : BitVec 32 := Scalar.select v604 v605 v599
  let c1_i32_561 : BitVec 32 := 1#32
  let v608 : BitVec 32 := Scalar.muli v606 c1_i32_561
  let v609 : BitVec 32 := Scalar.addi c0_i32_562 v608
  v609.toNat
def k0_dev23 (d0 : Dev nD) : Nat :=
  let c0_i32_581 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_566 : BitVec 32 := 1#32
  let v617 : BitVec 32 := Scalar.addi v2 c1_i32_566
  let c4_i32_567 : BitVec 32 := 4#32
  let c0_i32_568 : BitVec 32 := 0#32
  let v618 : BitVec 1 := Scalar.cmpi .eq c4_i32_567 c0_i32_568
  let c1_i32_569 : BitVec 32 := 1#32
  let v619 : BitVec 32 := Scalar.select v618 c1_i32_569 c4_i32_567
  let v620 : BitVec 32 := Scalar.remsi v617 v619
  let c0_i32_571 : BitVec 32 := 0#32
  let v622 : BitVec 1 := Scalar.cmpi .slt v620 c0_i32_571
  let c0_i32_572 : BitVec 32 := 0#32
  let v623 : BitVec 1 := Scalar.cmpi .slt v619 c0_i32_572
  let v624 : BitVec 1 := Scalar.xori v622 v623
  let c0_i32_570 : BitVec 32 := 0#32
  let v621 : BitVec 1 := Scalar.cmpi .ne v620 c0_i32_570
  let v625 : BitVec 1 := Scalar.andi v624 v621
  let v626 : BitVec 32 := Scalar.addi v620 v619
  let v627 : BitVec 32 := Scalar.select v625 v626 v620
  let c1_i32_580 : BitVec 32 := 1#32
  let v629 : BitVec 32 := Scalar.muli v627 c1_i32_580
  let v630 : BitVec 32 := Scalar.addi c0_i32_581 v629
  v630.toNat
def k0_dev24 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_585 : BitVec 32 := 3#32
  let v638 : BitVec 32 := Scalar.addi v2 c3_i32_585
  let c4_i32_586 : BitVec 32 := 4#32
  let c0_i32_587 : BitVec 32 := 0#32
  let v639 : BitVec 1 := Scalar.cmpi .eq c4_i32_586 c0_i32_587
  let c1_i32_588 : BitVec 32 := 1#32
  let v640 : BitVec 32 := Scalar.select v639 c1_i32_588 c4_i32_586
  let v641 : BitVec 32 := Scalar.remsi v638 v640
  let c0_i32_590 : BitVec 32 := 0#32
  let v643 : BitVec 1 := Scalar.cmpi .slt v641 c0_i32_590
  let c0_i32_591 : BitVec 32 := 0#32
  let v644 : BitVec 1 := Scalar.cmpi .slt v640 c0_i32_591
  let v645 : BitVec 1 := Scalar.xori v643 v644
  let c0_i32_589 : BitVec 32 := 0#32
  let v642 : BitVec 1 := Scalar.cmpi .ne v641 c0_i32_589
  let v646 : BitVec 1 := Scalar.andi v645 v642
  let v647 : BitVec 32 := Scalar.addi v641 v640
  let v648 : BitVec 32 := Scalar.select v646 v647 v641
  let c1_i32_599 : BitVec 32 := 1#32
  let v650 : BitVec 32 := Scalar.muli v648 c1_i32_599
  let v651 : BitVec 32 := Scalar.addi c0_i32_600 v650
  v651.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_639 : BitVec 32 := 128#32
  let v683 : BitVec 32 := Scalar.muli v2 c128_i32_639
  let v684 : Index := Scalar.indexCast v683
  let c384_640 : Index := 384#32
  ![v684.toNat, 384]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_661 : BitVec 32 := 128#32
  let v716 : BitVec 32 := Scalar.muli v2 c128_i32_661
  let c384_i32_672 : BitVec 32 := 384#32
  ![v716.toNat, 384]
def k0_dev25 (d0 : Dev nD) : Nat :=
  let c0_i32_669 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_654 : BitVec 32 := 2#32
  let v705 : BitVec 32 := Scalar.addi v2 c2_i32_654
  let c4_i32_655 : BitVec 32 := 4#32
  let c0_i32_656 : BitVec 32 := 0#32
  let v706 : BitVec 1 := Scalar.cmpi .eq c4_i32_655 c0_i32_656
  let c1_i32_657 : BitVec 32 := 1#32
  let v707 : BitVec 32 := Scalar.select v706 c1_i32_657 c4_i32_655
  let v708 : BitVec 32 := Scalar.remsi v705 v707
  let c0_i32_659 : BitVec 32 := 0#32
  let v710 : BitVec 1 := Scalar.cmpi .slt v708 c0_i32_659
  let c0_i32_660 : BitVec 32 := 0#32
  let v711 : BitVec 1 := Scalar.cmpi .slt v707 c0_i32_660
  let v712 : BitVec 1 := Scalar.xori v710 v711
  let c0_i32_658 : BitVec 32 := 0#32
  let v709 : BitVec 1 := Scalar.cmpi .ne v708 c0_i32_658
  let v713 : BitVec 1 := Scalar.andi v712 v709
  let v714 : BitVec 32 := Scalar.addi v708 v707
  let v715 : BitVec 32 := Scalar.select v713 v714 v708
  let c1_i32_668 : BitVec 32 := 1#32
  let v717 : BitVec 32 := Scalar.muli v715 c1_i32_668
  let v718 : BitVec 32 := Scalar.addi c0_i32_669 v717
  v718.toNat
def k0_dev26 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_673 : BitVec 32 := 1#32
  let v726 : BitVec 32 := Scalar.addi v2 c1_i32_673
  let c4_i32_674 : BitVec 32 := 4#32
  let c0_i32_675 : BitVec 32 := 0#32
  let v727 : BitVec 1 := Scalar.cmpi .eq c4_i32_674 c0_i32_675
  let c1_i32_676 : BitVec 32 := 1#32
  let v728 : BitVec 32 := Scalar.select v727 c1_i32_676 c4_i32_674
  let v729 : BitVec 32 := Scalar.remsi v726 v728
  let c0_i32_678 : BitVec 32 := 0#32
  let v731 : BitVec 1 := Scalar.cmpi .slt v729 c0_i32_678
  let c0_i32_679 : BitVec 32 := 0#32
  let v732 : BitVec 1 := Scalar.cmpi .slt v728 c0_i32_679
  let v733 : BitVec 1 := Scalar.xori v731 v732
  let c0_i32_677 : BitVec 32 := 0#32
  let v730 : BitVec 1 := Scalar.cmpi .ne v729 c0_i32_677
  let v734 : BitVec 1 := Scalar.andi v733 v730
  let v735 : BitVec 32 := Scalar.addi v729 v728
  let v736 : BitVec 32 := Scalar.select v734 v735 v729
  let c1_i32_687 : BitVec 32 := 1#32
  let v738 : BitVec 32 := Scalar.muli v736 c1_i32_687
  let v739 : BitVec 32 := Scalar.addi c0_i32_688 v738
  v739.toNat
def k0_dev27 (d0 : Dev nD) : Nat :=
  let c0_i32_707 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_692 : BitVec 32 := 3#32
  let v747 : BitVec 32 := Scalar.addi v2 c3_i32_692
  let c4_i32_693 : BitVec 32 := 4#32
  let c0_i32_694 : BitVec 32 := 0#32
  let v748 : BitVec 1 := Scalar.cmpi .eq c4_i32_693 c0_i32_694
  let c1_i32_695 : BitVec 32 := 1#32
  let v749 : BitVec 32 := Scalar.select v748 c1_i32_695 c4_i32_693
  let v750 : BitVec 32 := Scalar.remsi v747 v749
  let c0_i32_697 : BitVec 32 := 0#32
  let v752 : BitVec 1 := Scalar.cmpi .slt v750 c0_i32_697
  let c0_i32_698 : BitVec 32 := 0#32
  let v753 : BitVec 1 := Scalar.cmpi .slt v749 c0_i32_698
  let v754 : BitVec 1 := Scalar.xori v752 v753
  let c0_i32_696 : BitVec 32 := 0#32
  let v751 : BitVec 1 := Scalar.cmpi .ne v750 c0_i32_696
  let v755 : BitVec 1 := Scalar.andi v754 v751
  let v756 : BitVec 32 := Scalar.addi v750 v749
  let v757 : BitVec 32 := Scalar.select v755 v756 v750
  let c1_i32_706 : BitVec 32 := 1#32
  let v759 : BitVec 32 := Scalar.muli v757 c1_i32_706
  let v760 : BitVec 32 := Scalar.addi c0_i32_707 v759
  v760.toNat
def k0_off13 (d0 : Dev nD) (c1_i32_724 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v778 : BitVec 32 := Scalar.subi v2 c1_i32_724
  let c4_i32_725 : BitVec 32 := 4#32
  let c0_i32_726 : BitVec 32 := 0#32
  let v779 : BitVec 1 := Scalar.cmpi .eq c4_i32_725 c0_i32_726
  let c1_i32_727 : BitVec 32 := 1#32
  let v780 : BitVec 32 := Scalar.select v779 c1_i32_727 c4_i32_725
  let v781 : BitVec 32 := Scalar.remsi v778 v780
  let c0_i32_729 : BitVec 32 := 0#32
  let v783 : BitVec 1 := Scalar.cmpi .slt v781 c0_i32_729
  let c0_i32_730 : BitVec 32 := 0#32
  let v784 : BitVec 1 := Scalar.cmpi .slt v780 c0_i32_730
  let v785 : BitVec 1 := Scalar.xori v783 v784
  let c0_i32_728 : BitVec 32 := 0#32
  let v782 : BitVec 1 := Scalar.cmpi .ne v781 c0_i32_728
  let v786 : BitVec 1 := Scalar.andi v785 v782
  let v787 : BitVec 32 := Scalar.addi v781 v780
  let v788 : BitVec 32 := Scalar.select v786 v787 v781
  let c128_i32_735 : BitVec 32 := 128#32
  let v792 : BitVec 32 := Scalar.muli v788 c128_i32_735
  let v793 : Index := Scalar.indexCast v792
  let c0_736 : Index := 0#32
  ![v793.toNat, 0]
def k0_off14 (d0 : Dev nD) (c1_i32_796 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v850 : BitVec 32 := Scalar.subi v2 c1_i32_796
  let c4_i32_797 : BitVec 32 := 4#32
  let c0_i32_798 : BitVec 32 := 0#32
  let v851 : BitVec 1 := Scalar.cmpi .eq c4_i32_797 c0_i32_798
  let c1_i32_799 : BitVec 32 := 1#32
  let v852 : BitVec 32 := Scalar.select v851 c1_i32_799 c4_i32_797
  let v853 : BitVec 32 := Scalar.remsi v850 v852
  let c0_i32_801 : BitVec 32 := 0#32
  let v855 : BitVec 1 := Scalar.cmpi .slt v853 c0_i32_801
  let c0_i32_802 : BitVec 32 := 0#32
  let v856 : BitVec 1 := Scalar.cmpi .slt v852 c0_i32_802
  let v857 : BitVec 1 := Scalar.xori v855 v856
  let c0_i32_800 : BitVec 32 := 0#32
  let v854 : BitVec 1 := Scalar.cmpi .ne v853 c0_i32_800
  let v858 : BitVec 1 := Scalar.andi v857 v854
  let v859 : BitVec 32 := Scalar.addi v853 v852
  let v860 : BitVec 32 := Scalar.select v858 v859 v853
  let c128_i32_807 : BitVec 32 := 128#32
  let v864 : BitVec 32 := Scalar.muli v860 c128_i32_807
  let v865 : Index := Scalar.indexCast v864
  let c128_808 : Index := 128#32
  ![v865.toNat, 128]
def k0_off15 (d0 : Dev nD) (c1_i32_868 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v922 : BitVec 32 := Scalar.subi v2 c1_i32_868
  let c4_i32_869 : BitVec 32 := 4#32
  let c0_i32_870 : BitVec 32 := 0#32
  let v923 : BitVec 1 := Scalar.cmpi .eq c4_i32_869 c0_i32_870
  let c1_i32_871 : BitVec 32 := 1#32
  let v924 : BitVec 32 := Scalar.select v923 c1_i32_871 c4_i32_869
  let v925 : BitVec 32 := Scalar.remsi v922 v924
  let c0_i32_873 : BitVec 32 := 0#32
  let v927 : BitVec 1 := Scalar.cmpi .slt v925 c0_i32_873
  let c0_i32_874 : BitVec 32 := 0#32
  let v928 : BitVec 1 := Scalar.cmpi .slt v924 c0_i32_874
  let v929 : BitVec 1 := Scalar.xori v927 v928
  let c0_i32_872 : BitVec 32 := 0#32
  let v926 : BitVec 1 := Scalar.cmpi .ne v925 c0_i32_872
  let v930 : BitVec 1 := Scalar.andi v929 v926
  let v931 : BitVec 32 := Scalar.addi v925 v924
  let v932 : BitVec 32 := Scalar.select v930 v931 v925
  let c128_i32_879 : BitVec 32 := 128#32
  let v936 : BitVec 32 := Scalar.muli v932 c128_i32_879
  let v937 : Index := Scalar.indexCast v936
  let c256_880 : Index := 256#32
  ![v937.toNat, 256]
def k0_off16 (d0 : Dev nD) (c1_i32_940 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v994 : BitVec 32 := Scalar.subi v2 c1_i32_940
  let c4_i32_941 : BitVec 32 := 4#32
  let c0_i32_942 : BitVec 32 := 0#32
  let v995 : BitVec 1 := Scalar.cmpi .eq c4_i32_941 c0_i32_942
  let c1_i32_943 : BitVec 32 := 1#32
  let v996 : BitVec 32 := Scalar.select v995 c1_i32_943 c4_i32_941
  let v997 : BitVec 32 := Scalar.remsi v994 v996
  let c0_i32_945 : BitVec 32 := 0#32
  let v999 : BitVec 1 := Scalar.cmpi .slt v997 c0_i32_945
  let c0_i32_946 : BitVec 32 := 0#32
  let v1000 : BitVec 1 := Scalar.cmpi .slt v996 c0_i32_946
  let v1001 : BitVec 1 := Scalar.xori v999 v1000
  let c0_i32_944 : BitVec 32 := 0#32
  let v998 : BitVec 1 := Scalar.cmpi .ne v997 c0_i32_944
  let v1002 : BitVec 1 := Scalar.andi v1001 v998
  let v1003 : BitVec 32 := Scalar.addi v997 v996
  let v1004 : BitVec 32 := Scalar.select v1002 v1003 v997
  let c128_i32_951 : BitVec 32 := 128#32
  let v1008 : BitVec 32 := Scalar.muli v1004 c128_i32_951
  let v1009 : Index := Scalar.indexCast v1008
  let c384_952 : Index := 384#32
  ![v1009.toNat, 384]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .hbm, ⟨2, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Frag.lean ====
/-
# The kernel's body in the order it runs, cut into the pieces that repeat

The printed body is one flat list of effects, cut at fixed positions. Here it is written again as the source
reads: the entry handshake, then for each of the four column groups a partial product and its three transfers,
then for each group the sum of the four row chunks and its three transfers, then the chunks received, then the
waits on the sender's side. `body_eq` says that the printed body is this program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The buffers and their sub-rectangles -/

/-- This device's columns of `A`, its rows of `B`, and its result, as staged for the body. -/
abbrev aM : Memref sig .tc .vmem S512x256 .f32 := Memref.whole cc0_stg0_0
abbrev bM : Memref sig .tc .vmem S256x512 .f32 := Memref.whole cc0_stg1_0
abbrev oM : Memref sig .tc .vmem S512x512 .f32 := Memref.whole cc0_stg2_0
/-- The partial product, the chunks received while summing, the chunks received while gathering, and the
    two operands narrowed. -/
abbrev pM : Memref sig .tc .vmem S512x512 .bf16 := Memref.whole cc0_scratch0
abbrev rM : Memref sig .tc .vmem S4x3x128x128 .bf16 := Memref.whole cc0_scratch1
abbrev gM : Memref sig .tc .vmem S4x3x128x128 .bf16 := Memref.whole cc0_scratch2
abbrev xM : Memref sig .tc .vmem S512x256 .bf16 := Memref.whole cc0_scratch3
abbrev yM : Memref sig .tc .vmem S256x512 .bf16 := Memref.whole cc0_scratch4

theorem inbSlot : ∀ (h : Fin 4) (j : Fin 3) (a : Fin 4), (![h.val, j.val, 0, 0] : Fin 4 → Nat) a + S1x1x128x128.size a ≤ S4x3x128x128.size a := by decide +kernel
theorem inbSem : ∀ (h : Fin 4) (j : Fin 3) (a : Fin 2), (![h.val, j.val] : Fin 2 → Nat) a + S1x1.size a ≤ S4x3.size a := by decide +kernel
theorem inbBlk : ∀ (r h : Fin 4) (a : Fin 2), (![128 * r.val, 128 * h.val] : Fin 2 → Nat) a + S128x128.size a ≤ S512x512.size a := by decide +kernel
theorem inbStrip : ∀ (h : Fin 4) (a : Fin 2), (![0, 128 * h.val] : Fin 2 → Nat) a + S512x128.size a ≤ S512x512.size a := by decide +kernel
theorem inbCol : ∀ (h : Fin 4) (a : Fin 2), (![0, 128 * h.val] : Fin 2 → Nat) a + S256x128.size a ≤ S256x512.size a := by decide +kernel

set_option backward.proofsInPublic true in
/-- Slot `(h, j)` of a receive buffer: what comes for column group `h` from the `j`-th of the other devices. -/
abbrev slotR (h : Fin 4) (j : Fin 3) : Rect S4x3x128x128 := Rect.unit (s := S4x3x128x128) ![h.val, j.val, 0, 0] S1x1x128x128.size (inbSlot h j)
set_option backward.proofsInPublic true in
abbrev semR (h : Fin 4) (j : Fin 3) : Rect S4x3 := Rect.unit (s := S4x3) ![h.val, j.val] S1x1.size (inbSem h j)
set_option backward.proofsInPublic true in
/-- The 128×128 block at row chunk `r`, column group `h`. -/
abbrev blkR (r h : Fin 4) : Rect S512x512 := Rect.unit (s := S512x512) ![128 * r.val, 128 * h.val] S128x128.size (inbBlk r h)
set_option backward.proofsInPublic true in
/-- The columns of group `h`. -/
abbrev stripR (h : Fin 4) : Rect S512x512 := Rect.unit (s := S512x512) ![0, 128 * h.val] S512x128.size (inbStrip h)
set_option backward.proofsInPublic true in
abbrev colR (h : Fin 4) : Rect S256x512 := Rect.unit (s := S256x512) ![0, 128 * h.val] S256x128.size (inbCol h)

theorem wordsSlot : ∀ (h : Fin 4) (j : Fin 3), (slotR h j).WholeWords (EltTy.packing .bf16) := by decide +kernel
theorem packedStrip : ∀ h : Fin 4, (stripR h).PackedRows (EltTy.packing .bf16) := by decide +kernel

/-- A slot of a receive buffer, seen as a 128×128 block. -/
abbrev slot (b : Memref sig .tc .vmem S4x3x128x128 .bf16) (h : Fin 4) (j : Fin 3) : Memref sig .tc .vmem S128x128 .bf16 :=
  (b.slice (slotR h j) (fun _ => rfl)).squeeze S128x128 squeezes_S1x1x128x128_S128x128
/-- The semaphore at `(h, j)` of one of the four arrays. -/
abbrev semOf (s : DmaSems sig S4x3) (h : Fin 4) (j : Fin 3) : DmaSem sig :=
  ((s.slice (semR h j)).squeeze S_ squeezes_S1x1_S_).sem

/-! ## The printed addresses, by group -/

/-- Where the transfer for group `h`, distance `j + 1` goes, in the first and in the second half. -/
def rsDev : Fin 4 → Fin 3 → Dev nD → ℕ
  | 0, 0 => k0_dev5 | 0, 1 => k0_dev4 | 0, 2 => k0_dev6
  | 1, 0 => k0_dev8 | 1, 1 => k0_dev7 | 1, 2 => k0_dev9
  | 2, 0 => k0_dev11 | 2, 1 => k0_dev10 | 2, 2 => k0_dev12
  | 3, 0 => k0_dev14 | 3, 1 => k0_dev13 | 3, 2 => k0_dev15
def agDev : Fin 4 → Fin 3 → Dev nD → ℕ
  | 0, 0 => k0_dev17 | 0, 1 => k0_dev16 | 0, 2 => k0_dev18
  | 1, 0 => k0_dev20 | 1, 1 => k0_dev19 | 1, 2 => k0_dev21
  | 2, 0 => k0_dev23 | 2, 1 => k0_dev22 | 2, 2 => k0_dev24
  | 3, 0 => k0_dev26 | 3, 1 => k0_dev25 | 3, 2 => k0_dev27
/-- The block sent at distance `j + 1`; the device's own block, as accessed and as sent; the block stored. -/
def rsOff (h : Fin 4) (j : Fin 3) (c : Dev nD) : Fin 2 → ℕ :=
  match h with
  | 0 => k0_off1 c (BitVec.ofNat 32 (1 + j.val)) | 1 => k0_off2 c (BitVec.ofNat 32 (1 + j.val))
  | 2 => k0_off3 c (BitVec.ofNat 32 (1 + j.val)) | 3 => k0_off4 c (BitVec.ofNat 32 (1 + j.val))
def ownOff : Fin 4 → Dev nD → Fin 2 → ℕ
  | 0 => k0_off5 | 1 => k0_off7 | 2 => k0_off9 | 3 => k0_off11
def agOff : Fin 4 → Dev nD → Fin 2 → ℕ
  | 0 => k0_off6 | 1 => k0_off8 | 2 => k0_off10 | 3 => k0_off12
def outOff (h : Fin 4) (j : Fin 3) (c : Dev nD) : Fin 2 → ℕ :=
  match h with
  | 0 => k0_off13 c (BitVec.ofNat 32 (1 + j.val)) | 1 => k0_off14 c (BitVec.ofNat 32 (1 + j.val))
  | 2 => k0_off15 c (BitVec.ofNat 32 (1 + j.val)) | 3 => k0_off16 c (BitVec.ofNat 32 (1 + j.val))

/-- The device `j + 1` further round the ring. -/
def tgt (c : Dev nD) (j : Fin 3) : Dev nD := ⟨(c.val + (j.val + 1)) % 4, Nat.mod_lt _ (by decide)⟩

theorem rsDev_eq : ∀ (h : Fin 4) (j : Fin 3) (c : Dev nD), rsDev h j c = (tgt c j).val := by decide +kernel
theorem agDev_eq : ∀ (h : Fin 4) (j : Fin 3) (c : Dev nD), agDev h j c = (tgt c j).val := by decide +kernel
theorem rsOff_eq : ∀ (h : Fin 4) (j : Fin 3) (c : Dev nD), rsOff h j c = ![128 * (tgt c j).val, 128 * h.val] := by decide +kernel
theorem ownOff_eq : ∀ (h : Fin 4) (c : Dev nD), ownOff h c = ![128 * c.val, 128 * h.val] := by decide +kernel
theorem agOff_eq : ∀ (h : Fin 4) (c : Dev nD), agOff h c = ![128 * c.val, 128 * h.val] := by decide +kernel
theorem outOff_eq : ∀ (h : Fin 4) (j : Fin 3) (c : Dev nD), outOff h j c = ![128 * (tgt c j.rev).val, 128 * h.val] := by decide +kernel

theorem rsOff_inb (h : Fin 4) (j : Fin 3) (c : Dev nD) (a : Fin 2) : rsOff h j c a + S128x128.size a ≤ S512x512.size a := by
  rw [rsOff_eq]; exact inbBlk _ _ _
theorem ownOff_inb (h : Fin 4) (c : Dev nD) (a : Fin 2) : ownOff h c a + S128x128.size a ≤ S512x512.size a := by
  rw [ownOff_eq]; exact inbBlk _ _ _
theorem agOff_inb (h : Fin 4) (c : Dev nD) (a : Fin 2) : agOff h c a + S128x128.size a ≤ S512x512.size a := by
  rw [agOff_eq]; exact inbBlk _ _ _
theorem outOff_inb (h : Fin 4) (j : Fin 3) (c : Dev nD) (a : Fin 2) : outOff h j c a + S128x128.size a ≤ S512x512.size a := by
  rw [outOff_eq]; exact inbBlk _ _ _
theorem rsDev_lt (h : Fin 4) (j : Fin 3) (c : Dev nD) : rsDev h j c < nD := by rw [rsDev_eq]; exact (tgt c j).isLt
theorem agDev_lt (h : Fin 4) (j : Fin 3) (c : Dev nD) : agDev h j c < nD := by rw [agDev_eq]; exact (tgt c j).isLt

theorem words_blk : ∀ (r h : Fin 4), (blkR r h).WholeWords (EltTy.packing .bf16) := by decide +kernel
theorem packed_blk : ∀ (r h : Fin 4), (blkR r h).PackedRows (EltTy.packing .bf16) := by decide +kernel

theorem words_of {off : Fin 2 → ℕ} (r h : Fin 4) (e : off = ![128 * r.val, 128 * h.val]) (p : ∀ a, off a + S128x128.size a ≤ S512x512.size a) :
    (Rect.unit (s := S512x512) off S128x128.size p).WholeWords (EltTy.packing .bf16) := by subst e; exact words_blk r h
theorem packed_of {off : Fin 2 → ℕ} (r h : Fin 4) (e : off = ![128 * r.val, 128 * h.val]) (p : ∀ a, off a + S128x128.size a ≤ S512x512.size a) :
    (Rect.unit (s := S512x512) off S128x128.size p).PackedRows (EltTy.packing .bf16) := by subst e; exact packed_blk r h

/-! ## The pieces -/

abbrev P (F : FTy → Type) [FloatOps F] (α : Type) := Prog (TpuEff nD τ sig (Elt F) Λ₀ .tc) α

abbrev barrier : Sems sig S_ := SemArray.scalar (sig.barrier 0 rfl)

/-- The block of the partial product at an offset. -/
abbrev pBlk (off : Fin 2 → ℕ) (p : ∀ a, off a + S128x128.size a ≤ S512x512.size a) : Memref sig .tc .vmem S128x128 .bf16 :=
  pM.slice (Rect.unit (s := S512x512) off S128x128.size p) (fun _ => rfl)

/-- The two operands narrowed. -/
def narrow : P F PUnit := do
  let a : Vec F S512x256 .f32 ← Prog.lift (.load aM (Rect.unit (s := S512x256) ![0, 0] S512x256.size inb_S512x256_S512x256_0_0).toLoadRect (View.loadsAt_vmem h_S512x256))
  let _ : Vec F S512x256 .bf16 ← Prog.lift (.load xM (Rect.unit (s := S512x256) ![0, 0] S512x256.size inb_S512x256_S512x256_0_0).toLoadRect (View.loadsAt_vmem h_S512x256))
  Prog.lift (.store xM (Rect.unit (s := S512x256) ![0, 0] S512x256.size inb_S512x256_S512x256_0_0) (k0_pay1 a) Finset.univ (View.stores_vmem h_S512x256 ((Memref.isWhole_whole _).storeExact_slice rfl _ packedbf16_S512x256_S512x256_0_0) (fun _ => rfl)) (.inl rfl))
  let b : Vec F S256x512 .f32 ← Prog.lift (.load bM (Rect.unit (s := S256x512) ![0, 0] S256x512.size inb_S256x512_S256x512_0_0).toLoadRect (View.loadsAt_vmem h_S256x512))
  let _ : Vec F S256x512 .bf16 ← Prog.lift (.load yM (Rect.unit (s := S256x512) ![0, 0] S256x512.size inb_S256x512_S256x512_0_0).toLoadRect (View.loadsAt_vmem h_S256x512))
  Prog.lift (.store yM (Rect.unit (s := S256x512) ![0, 0] S256x512.size inb_S256x512_S256x512_0_0) (k0_pay2 b) Finset.univ (View.stores_vmem h_S256x512 ((Memref.isWhole_whole _).storeExact_slice rfl _ packedbf16_S256x512_S256x512_0_0) (fun _ => rfl)) (.inl rfl))

/-- The partial product's columns of group `h`. -/
def half (h : Fin 4) : P F PUnit := do
  let a : Vec F S512x256 .bf16 ← Prog.lift (.load xM (Rect.unit (s := S512x256) ![0, 0] S512x256.size inb_S512x256_S512x256_0_0).toLoadRect (View.loadsAt_vmem h_S512x256))
  let b : Vec F S256x128 .bf16 ← Prog.lift (.load yM (colR h).toLoadRect (View.loadsAt_vmem h_S256x128))
  let _ : Vec F S512x128 .bf16 ← Prog.lift (.load pM (stripR h).toLoadRect (View.loadsAt_vmem h_S512x128))
  Prog.lift (.store pM (stripR h) (k0_pay3 a b) Finset.univ (View.stores_vmem h_S512x128 ((Memref.isWhole_whole _).storeExact_slice rfl _ (packedStrip h)) (fun _ => rfl)) (.inl rfl))

/-- The transfer of a block of the partial product into the slot at distance `j + 1`. -/
def rsSend (c : Dev nD) (h : Fin 4) (j : Fin 3) : P F PUnit :=
  Prog.lift (.enqueueDma (pBlk (rsOff h j c) (rsOff_inb h j c)) (.remote (Dev.tc (⟨rsDev h j c, rsDev_lt h j c⟩ : Dev nD)) (slot rM h j) (.dma (semOf cc0_scratch5 h j))) (.dma (semOf cc0_scratch6 h j)) ((Memref.isWhole_whole _).wordExact_slice rfl _ (words_of _ _ (rsOff_eq h j c) _)) (((Memref.isWhole_whole _).wordExact_slice rfl _ (wordsSlot h j)).reshape _ _) ⟨⟨rfl, Or.inl rfl⟩, trivial⟩)
def rsRecv (c : Dev nD) (h : Fin 4) (j : Fin 3) : P F PUnit :=
  Prog.lift (.waitDma2 (semOf cc0_scratch6 h j) (pBlk (rsOff h j c) (rsOff_inb h j c)) (slot rM h j) ((Memref.isWhole_whole _).wordExact_slice rfl _ (words_of _ _ (rsOff_eq h j c) _)) (((Memref.isWhole_whole _).wordExact_slice rfl _ (wordsSlot h j)).reshape _ _))
def rsDone (c : Dev nD) (h : Fin 4) (j : Fin 3) : P F PUnit :=
  Prog.lift (.waitDma2 (semOf cc0_scratch5 h j) (slot rM h j) (pBlk (rsOff h j c) (rsOff_inb h j c)) (((Memref.isWhole_whole _).wordExact_slice rfl _ (wordsSlot h j)).reshape _ _) ((Memref.isWhole_whole _).wordExact_slice rfl _ (words_of _ _ (rsOff_eq h j c) _)))
/-- The same for the summed block. -/
def agSend (c : Dev nD) (h : Fin 4) (j : Fin 3) : P F PUnit :=
  Prog.lift (.enqueueDma (pBlk (agOff h c) (agOff_inb h c)) (.remote (Dev.tc (⟨agDev h j c, agDev_lt h j c⟩ : Dev nD)) (slot gM h j) (.dma (semOf cc0_scratch7 h j))) (.dma (semOf cc0_scratch8 h j)) ((Memref.isWhole_whole _).wordExact_slice rfl _ (words_of _ _ (agOff_eq h c) _)) (((Memref.isWhole_whole _).wordExact_slice rfl _ (wordsSlot h j)).reshape _ _) ⟨⟨rfl, Or.inl rfl⟩, trivial⟩)
def agRecv (c : Dev nD) (h : Fin 4) (j : Fin 3) : P F PUnit :=
  Prog.lift (.waitDma2 (semOf cc0_scratch8 h j) (pBlk (agOff h c) (agOff_inb h c)) (slot gM h j) ((Memref.isWhole_whole _).wordExact_slice rfl _ (words_of _ _ (agOff_eq h c) _)) (((Memref.isWhole_whole _).wordExact_slice rfl _ (wordsSlot h j)).reshape _ _))
def agDone (c : Dev nD) (h : Fin 4) (j : Fin 3) : P F PUnit :=
  Prog.lift (.waitDma2 (semOf cc0_scratch7 h j) (slot gM h j) (pBlk (agOff h c) (agOff_inb h c)) (((Memref.isWhole_whole _).wordExact_slice rfl _ (wordsSlot h j)).reshape _ _) ((Memref.isWhole_whole _).wordExact_slice rfl _ (words_of _ _ (agOff_eq h c) _)))

/-- The device's own block of group `h` summed over the four devices: narrowed into the partial product, and
    whole into the result after its three transfers. -/
def reduce (c : Dev nD) (h : Fin 4) : P F (FVec F S128x128 .f32) := do
  let p : Vec F S128x128 .bf16 ← Prog.lift (.load pM (Rect.unit (s := S512x512) (ownOff h c) S128x128.size (ownOff_inb h c)).toLoadRect (View.loadsAt_vmem h_S128x128))
  let r0 : Vec F S1x1x128x128 .bf16 ← Prog.lift (.load rM (slotR h 0).toLoadRect (View.loadsAt_vmem h_S1x1x128x128))
  let r1 : Vec F S1x1x128x128 .bf16 ← Prog.lift (.load rM (slotR h 1).toLoadRect (View.loadsAt_vmem h_S1x1x128x128))
  let r2 : Vec F S1x1x128x128 .bf16 ← Prog.lift (.load rM (slotR h 2).toLoadRect (View.loadsAt_vmem h_S1x1x128x128))
  let _ : Vec F S128x128 .bf16 ← Prog.lift (.load pM (Rect.unit (s := S512x512) (ownOff h c) S128x128.size (ownOff_inb h c)).toLoadRect (View.loadsAt_vmem h_S128x128))
  Prog.lift (.store pM (Rect.unit (s := S512x512) (ownOff h c) S128x128.size (ownOff_inb h c)) (k0_pay17 p r0 r1 r2) Finset.univ (View.stores_vmem h_S128x128 ((Memref.isWhole_whole _).storeExact_slice rfl _ (packed_of _ _ (ownOff_eq h c) _)) (fun _ => rfl)) (.inl rfl))
  pure (k0_pay16 p r0 r1 r2)
def keep (c : Dev nD) (h : Fin 4) (v : FVec F S128x128 .f32) : P F PUnit := do
  let _ : Vec F S128x128 .f32 ← Prog.lift (.load oM (Rect.unit (s := S512x512) (ownOff h c) S128x128.size (ownOff_inb h c)).toLoadRect (View.loadsAt_vmem h_S128x128))
  Prog.lift (.store oM (Rect.unit (s := S512x512) (ownOff h c) S128x128.size (ownOff_inb h c)) v Finset.univ (View.stores_vmem_bits_univ h_S128x128 rfl) (.inl rfl))

/-- The chunk received in slot `(h, j)`, widened into the result. -/
def gather (c : Dev nD) (h : Fin 4) (j : Fin 3) : P F PUnit := do
  let v : Vec F S1x1x128x128 .bf16 ← Prog.lift (.load gM (slotR h j).toLoadRect (View.loadsAt_vmem h_S1x1x128x128))
  let _ : Vec F S128x128 .f32 ← Prog.lift (.load oM (Rect.unit (s := S512x512) (outOff h j c) S128x128.size (outOff_inb h j c)).toLoadRect (View.loadsAt_vmem h_S128x128))
  Prog.lift (.store oM (Rect.unit (s := S512x512) (outOff h j c) S128x128.size (outOff_inb h j c)) (k0_pay18 v) Finset.univ (View.stores_vmem_bits_univ h_S128x128 rfl) (.inl rfl))

/-- The pieces for one group, in the order the body takes the three distances. -/
def sends (c : Dev nD) (h : Fin 4) : P F PUnit := do rsSend c h 1; rsSend c h 0; rsSend c h 2
def middle (c : Dev nD) (h : Fin 4) : P F PUnit := do
  rsRecv c h 0; rsRecv c h 2; rsRecv c h 1
  let v : FVec F S128x128 .f32 ← reduce c h
  agSend c h 1; agSend c h 0; agSend c h 2
  keep c h v
def collect (c : Dev nD) (h : Fin 4) : P F PUnit := do
  agRecv c h 0; gather c h 0; agRecv c h 2; gather c h 2; agRecv c h 1; gather c h 1
def rsDrain (c : Dev nD) (h : Fin 4) : P F PUnit := do rsDone c h 1; rsDone c h 0; rsDone c h 2
def agDrain (c : Dev nD) (h : Fin 4) : P F PUnit := do agDone c h 1; agDone c h 0; agDone c h 2

/-- The body after the device has read its own number. -/
def after (c : Dev nD) : P F PUnit := do
  semSignalWord (⟨k0_dev1 c, k0_dev1_lt c⟩ : Dev nD) barrier.sem 1#32
  semSignalWord (⟨k0_dev2 c, k0_dev2_lt c⟩ : Dev nD) barrier.sem 1#32
  semSignalWord (⟨k0_dev3 c, k0_dev3_lt c⟩ : Dev nD) barrier.sem 1#32
  narrow
  half 0
  semWaitWord barrier.sem 3#32
  sends c 0
  half 1; sends c 1
  half 2; sends c 2
  half 3; sends c 3
  middle c 0; middle c 1; middle c 2; middle c 3
  collect c 0; collect c 1; collect c 2; collect c 3
  rsDrain c 0; rsDrain c 1; rsDrain c 2; rsDrain c 3
  agDrain c 0; agDrain c 1; agDrain c 2; agDrain c 3

def body : P F PUnit := Prog.lift (TpuEff.deviceId) >>= after

set_option maxRecDepth 65536 in
/-- The printed body is the program above. -/
theorem body_eq : cc0_body (F := F) aM (Memref.isWhole_whole _) bM (Memref.isWhole_whole _) oM (Memref.isWhole_whole _) pM (Memref.isWhole_whole _) rM (Memref.isWhole_whole _) gM (Memref.isWhole_whole _) xM (Memref.isWhole_whole _) yM (Memref.isWhole_whole _) cc0_scratch5 cc0_scratch6 cc0_scratch7 cc0_scratch8 = body (F := F) := by
  sl_kernel_rfl

end Cert.KProof

end
-- ==== Proof.Cells.lean ====
/-
# The protocol: cells, contents, schedule

A device `c` calls the device `j + 1` further round the ring `tgt c j` (`j` in 0, 1, 2), and the device whose
`tgt · j` it is is `tgt c j.rev`.

Cells of device `c`, each with one round:

* the barrier cell: three duties of one unit. Duty `i` is paid by `tgt c i` and hands over the slots of that
  device's two receive buffers that `c` writes, the ones at distance `i + 1`;
* `(0, h, j)` and `(2, h, j)`, the send side of the transfers of the two halves: the block sent, back (a share of
  it in the second half, where one block goes out three times);
* `(1, h, j)`: slot `(h, j)` of the first receive buffer, holding the block that device `tgt c j.rev` computed for
  `c`'s row chunk and column group `h`;
* `(3, h, j)`: slot `(h, j)` of the second one, holding that device's summed block of group `h`.
-/
module

public import proofs.«01_k».proof.Proof.Frag
public import Idealize.ShloMosaic.Lib.MemrefSat
public import Idealize.ShloMosaic.Lib.Memref

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

theorem tgt_rev (c : Dev nD) (j : Fin 3) : tgt (tgt c j) j.rev = c := by revert c j; decide
theorem tgt_rev' (c : Dev nD) (j : Fin 3) : tgt (tgt c j.rev) j = c := by revert c j; decide

/-- The ring turned by `j + 1`. -/
def turn (j : Fin 3) : Dev nD ≃ Dev nD := ⟨(tgt · j), (tgt · j.rev), (tgt_rev · j), (tgt_rev' · j)⟩

/-! ## The cells -/

abbrev T : Type := Fin 4 × Fin 4 × Fin 3

/-- The DMA semaphore of cell `(g, h, j)`: the four arrays lie one after another, behind the three of the staging. -/
def dq (t : T) : DmaSem sig := ⟨3 + (12 * t.1.val + 3 * t.2.1.val + t.2.2.val), by
  have h1 := t.1.isLt; have h2 := t.2.1.isLt; have h3 := t.2.2.isLt
  show _ < 51; omega⟩
def undq (q : DmaSem sig) : T := (⟨(q.val - 3) / 12 % 4, Nat.mod_lt _ (by decide)⟩, ⟨(q.val - 3) / 3 % 4, Nat.mod_lt _ (by decide)⟩, ⟨(q.val - 3) % 3, Nat.mod_lt _ (by decide)⟩)
theorem undq_dq : ∀ t : T, undq (dq t) = t := by decide
theorem dq_ge : ∀ t : T, 3 ≤ (dq t).val := fun t => Nat.le_add_right _ _
theorem dq_injective : Function.Injective dq := fun a b h => by rw [← undq_dq a, h, undq_dq]

theorem sem5_eq : ∀ (h : Fin 4) (j : Fin 3), semOf cc0_scratch5 h j = dq (0, h, j) := by decide
theorem sem6_eq : ∀ (h : Fin 4) (j : Fin 3), semOf cc0_scratch6 h j = dq (1, h, j) := by decide
theorem sem7_eq : ∀ (h : Fin 4) (j : Fin 3), semOf cc0_scratch7 h j = dq (2, h, j) := by decide
theorem sem8_eq : ∀ (h : Fin 4) (j : Fin 3), semOf cc0_scratch8 h j = dq (3, h, j) := by decide

abbrev barS : Sem sig := (barrier : Sems sig S_).sem
abbrev barCell (c : Dev nD) : GSem nD τ sig := ((c : Thread nD τ), .reg barS)
abbrev cell (c : Dev nD) (t : T) : GSem nD τ sig := ((c : Thread nD τ), .dma (dq t))

/-- The credit of one 128×128 block. -/
abbrev N : ℕ := (slot rM 0 0).view.dmaCredit
theorem N_pos : 0 < N := View.dmaCredit_pos _ (by decide)

set_option backward.proofsInPublic true in
/-- The block of the partial product at row chunk `r`, column group `h`. -/
abbrev blk (r h : Fin 4) : Memref sig .tc .vmem S128x128 .bf16 := pM.slice (blkR r h) (fun _ => rfl)

theorem credit_r (h : Fin 4) (j : Fin 3) : (slot rM h j).view.dmaCredit = N := rfl
theorem credit_g (h : Fin 4) (j : Fin 3) : (slot gM h j).view.dmaCredit = N := rfl
theorem credit_b (off : Fin 2 → ℕ) (p) : (pBlk off p).view.dmaCredit = N := rfl

/-! ## Contents

Of the launch the protocol's contents depend on the two staged blocks alone: `X c` of `A` and `Y c` of `B`. -/

variable (X : Dev nD → Vec F S512x256 .f32) (Y : Dev nD → Vec F S256x512 .f32)

theorem inbRow : ∀ (r : Fin 4) (a : Fin 2), (![128 * r.val, 0] : Fin 2 → Nat) a + S128x128.size a ≤ S512x128.size a := by decide +kernel
set_option backward.proofsInPublic true in
/-- Row chunk `r` of a column group. -/
abbrev rowR (r : Fin 4) : Rect S512x128 := Rect.unit (s := S512x128) ![128 * r.val, 0] S128x128.size (inbRow r)

abbrev Blk (F : FTy → Type) (e : EltTy) : Type := S128x128.Idx → Elt F e

/-- The columns of group `h` of device `c`'s partial product; their row chunk `r`. -/
def part (c : Dev nD) (h : Fin 4) : S512x128.Idx → Elt F .bf16 :=
  k0_pay3 (k0_pay1 (X c)) (fun i => k0_pay2 (Y c) ((colR h).emb i))
def pblk (c : Dev nD) (r h : Fin 4) : Blk F .bf16 := fun i => part X Y c h ((rowR r).emb i)

/-- A block widened. -/
def wide (p : Blk F .bf16) : Blk F .f32 := extf .f32 (show Vec F S128x128 .bf16 from p) bitsLt_bf16_f32
/-- A block and three more, widened and added up in this order. -/
def acc (p r0 r1 r2 : Blk F .bf16) : Blk F .f32 :=
  addf (addf (addf (wide p) (wide r0)) (wide r1)) (wide r2)

/-- What device `c` sums for column group `h`: its own block and the three that come from the other devices. -/
def total (c : Dev nD) (h : Fin 4) : Blk F .f32 :=
  acc (pblk X Y c c h) (pblk X Y (tgt c 2) c h) (pblk X Y (tgt c 1) c h) (pblk X Y (tgt c 0) c h)
def totalB (c : Dev nD) (h : Fin 4) : Blk F .bf16 := shapeCast S128x128 (truncf .bf16 (show FVec F S128x128 .f32 from total X Y c h) bitsLt_bf16_f32) shapeCasts_S128x128_S128x128

/-! ## The schedule -/

/-- Owned, at contents nobody needs. -/
abbrev any (c : Dev nD) {sh : Shape} {e : EltTy} (b : Memref sig .tc .vmem sh e) : sProp 𝕄 := ownsSat (c : Thread nD τ) b fullShare (fun _ => True)

/-- The three shares in which a summed block is lent to its transfers. -/
def third : Fin 3 → PosShare TreeShare := ![fullShare.left, fullShare.right.left, fullShare.right.right]

/-- The slots of device `d`'s two receive buffers at distance `i + 1`. -/
def slots (d : Dev nD) (i : Fin 3) : sProp 𝕄 :=
  bigSep Finset.univ fun h : Fin 4 => iprop(any d (slot rM h i) ∗ any d (slot gM h i))

/-- What a completed transfer hands over, by its cell. -/
def landed (c : Dev nD) (t : T) : sProp 𝕄 := match t with
  | (0, h, j) => any c (blk (tgt c j) h)
  | (1, h, j) => owns (c : Thread nD τ) (slot rM h j) fullShare (pblk X Y (tgt c j.rev) c h)
  | (2, h, j) => ownsSat (c : Thread nD τ) (blk c h) (third j) (fun _ => True)
  | (3, h, j) => owns (c : Thread nD τ) (slot gM h j) fullShare (totalB X Y (tgt c j.rev) h)

instance slots_storable (d : Dev nD) (i : Fin 3) : BI.Storable (upEmb : UEmb _ 𝕄) (slots (F := F) d i) := by unfold slots; infer_instance
instance landed_storable (c : Dev nD) (t : T) : BI.Storable (upEmb : UEmb _ 𝕄) (landed X Y c t) := by
  unfold landed; split <;> infer_instance

def amt (sm : SemLoc sig) : ℕ := match sm with
  | .reg _ => 1
  | .dma _ => N
def names (sm : SemLoc sig) : Finset (Fin 3) := match sm with
  | .reg _ => Finset.univ
  | .dma q => if 3 ≤ q.val then {0} else ∅
def pay (c : Dev nD) (sm : SemLoc sig) (i : Fin 3) : sProp 𝕄 := match sm with
  | .reg _ => slots (tgt c i) i
  | .dma q => landed X Y c (undq q)

instance pay_storable (c : Dev nD) (sm : SemLoc sig) (i : Fin 3) : BI.Storable (upEmb : UEmb _ 𝕄) (pay X Y c sm i) := by
  unfold pay; split <;> infer_instance

/-- One round on every cell. -/
def Rd : Rounds.Schedule (GSem nD τ sig) (Fin 3) 𝕄 where
  duties g r := if r = 0 ∧ g.1.2 = .tc then names g.2 else ∅
  unitless _ := False
  amount g _ _ := amt g.2
  payload g _ i := pay X Y g.1.1 g.2 i
  amount_pos g _ _ _ := by
    cases g.2 with
    | reg _ => exact Nat.one_pos
    | dma _ => exact N_pos

instance Rd_storable (g : GSem nD τ sig) (r : ℕ) (i : Fin 3) : BI.Storable (upEmb : UEmb _ 𝕄) ((Rd X Y).payload g r i) :=
  show BI.Storable upEmb (pay X Y g.1.1 g.2 i) from inferInstance

theorem duties_bar (c : Dev nD) : (Rd X Y).duties (barCell c) 0 = Finset.univ := by dsimp only [Rd]; exact if_pos ⟨rfl, rfl⟩
theorem duties_cell (c : Dev nD) (t : T) : (Rd X Y).duties (cell c t) 0 = {0} := by
  dsimp only [Rd]; rw [if_pos ⟨rfl, rfl⟩]; exact if_pos (dq_ge t)
theorem duties_later (g : GSem nD τ sig) : ∀ r, 1 ≤ r → (Rd X Y).duties g r = ∅ :=
  fun r hr => by dsimp only [Rd]; exact if_neg fun h => by omega
theorem amount_bar (c : Dev nD) (i : Fin 3) : (Rd X Y).amount (barCell c) 0 i = 1 := rfl
theorem amount_cell (c : Dev nD) (t : T) (i : Fin 3) : (Rd X Y).amount (cell c t) 0 i = N := rfl
theorem payload_bar (c : Dev nD) (i : Fin 3) : (Rd X Y).payload (barCell c) 0 i = slots (tgt c i) i := rfl
theorem payload_cell (c : Dev nD) (t : T) (i : Fin 3) : (Rd X Y).payload (cell c t) 0 i = landed X Y c t :=
  congrArg (landed X Y c) (undq_dq t)
theorem expect_bar (c : Dev nD) : (Rd X Y).expect (barCell c) 0 = 3 := by
  unfold Schedule.expect Schedule.amountOf
  rw [duties_bar, Finset.sum_congr rfl fun i _ => amount_bar X Y c i]; rfl
theorem expect_cell (c : Dev nD) (t : T) : (Rd X Y).expect (cell c t) 0 = N := by
  unfold Schedule.expect Schedule.amountOf; rw [duties_cell, Finset.sum_singleton, amount_cell]
theorem rest_bar (c : Dev nD) :
    bigSep ((Rd X Y).duties (barCell c) 0 \ ∅) (fun i => (Rd X Y).payload (barCell c) 0 i) = bigSep Finset.univ fun i : Fin 3 => slots (F := F) (tgt c i) i := by
  rw [Finset.sdiff_empty, duties_bar]; rfl
theorem rest_cell (c : Dev nD) (t : T) :
    bigSep ((Rd X Y).duties (cell c t) 0 \ ∅) (fun i => (Rd X Y).payload (cell c t) 0 i) = landed X Y c t := by
  rw [Finset.sdiff_empty, duties_cell, bigSep_singleton, payload_cell]

/-! ## What a device owes, in the order in which it pays; the levels -/

/-- A signal at distance `j + 1`; the transfer at distance `j + 1` for group `h`, in the first half and in the second. -/
inductive It where
  | bar (j : Fin 3)
  | rs (h : Fin 4) (j : Fin 3)
  | ag (h : Fin 4) (j : Fin 3)
  deriving DecidableEq

namespace It
def cell (c : Dev nD) : It → GSem nD τ sig
  | bar j => barCell (tgt c j)
  | rs h j => KProof.cell (tgt c j) (1, h, j)
  | ag h j => KProof.cell (tgt c j) (3, h, j)
def amt : It → ℕ
  | bar _ => 1
  | rs _ _ => N
  | ag _ _ => N
/-- The level of the cell. -/
def lev : It → ℕ
  | bar _ => 1
  | rs _ _ => 2
  | ag _ _ => 3
end It

abbrev rsIts (h : Fin 4) : List It := [.rs h 1, .rs h 0, .rs h 2]
abbrev agIts (h : Fin 4) : List It := [.ag h 1, .ag h 0, .ag h 2]
abbrev itsAg : List It := agIts 0 ++ (agIts 1 ++ (agIts 2 ++ agIts 3))
abbrev itsRs : List It := rsIts 0 ++ (rsIts 1 ++ (rsIts 2 ++ (rsIts 3 ++ itsAg)))
abbrev its : List It := [.bar 0, .bar 1, .bar 2] ++ itsRs

/-- What is owed while the items of `l` are still to be paid. -/
def OL (c : Dev nD) (l : List It) : CellTallies nD τ sig Unit := l.foldr (fun x a => a + tallyAt (x.cell c) () x.amt) 0

theorem OL_cons (c : Dev nD) (x : It) (l : List It) : OL c (x :: l) = OL c l + tallyAt (x.cell c) () x.amt := rfl

theorem OL_pos {c : Dev nD} {l : List It} {g : GSem nD τ sig} {u : Unit} (h : 0 < OL c l g u) : ∃ x ∈ l, g = x.cell c := by
  induction l with
  | nil => exact absurd h (Nat.lt_irrefl 0)
  | cons x l ih =>
    rw [OL_cons, Pi.add_apply, Finsupp.add_apply, tallyAt_apply] at h
    by_cases hg : g = x.cell c
    · exact ⟨x, List.mem_cons_self, hg⟩
    · rw [if_neg fun h' => hg h'.1] at h
      obtain ⟨y, hy, hy'⟩ := ih h
      exact ⟨y, List.mem_cons_of_mem _ hy, hy'⟩

def L (g : GSem nD τ sig) : Finset Unit := if g.1.2 = .tc then {()} else ∅
/-- Barrier cells at 1, receive cells of the first half at 2, of the second at 3, the others at 0. -/
def lev (sm : SemLoc sig) : ℕ := match sm with
  | .reg _ => 1
  | .dma q => if 3 ≤ q.val then ![0, 2, 0, 3] (undq q).1 else 0
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl

theorem lev_cell (t : T) : lev (.dma (dq t)) = ![0, 2, 0, 3] t.1 := by
  unfold lev; dsimp only; rw [if_pos (dq_ge t), undq_dq]
theorem It.cell_tc (c : Dev nD) (x : It) : (x.cell c).1.2 = .tc := by cases x <;> rfl
theorem It.lev_cell (c : Dev nD) (x : It) : KProof.lev (x.cell c).2 = x.lev := by
  cases x with
  | bar j => rfl
  | rs h j => exact KProof.lev_cell _
  | ag h j => exact KProof.lev_cell _

/-- A device may wait on a cell below every cell that it still owes to. -/
theorem mayWait (c : Dev nD) (sm : SemLoc sig) (l : List It) (h : ∀ x ∈ l, lev sm < x.lev) :
    (levAts L lv : sProp 𝕄) ⊢ MayWait (c : Thread nD τ) sm () (OL c l) :=
  MayOwe.of_cut (L := L) (lev := lv) (lev sm) (fun p hp => by rw [Finset.mem_singleton.mp hp, L_tc]; exact Finset.mem_singleton_self _)
    (fun g u hg => by
      obtain ⟨x, _, rfl⟩ := OL_pos hg
      unfold L; rw [if_pos (x.cell_tc c)]; exact Finset.mem_singleton_self _)
    (fun p hp => by rw [Finset.mem_singleton.mp hp]; exact Nat.le_refl _)
    (fun g u hg => by
      obtain ⟨x, hx, rfl⟩ := OL_pos hg
      show lev sm < lev (x.cell c).2
      rw [x.lev_cell]; exact h x hx)

end Cert.KProof

end
-- ==== Proof.Steps.lean ====
/-
# One step each: accesses, transfers, waits

A load or store through a memref's rectangle, over `owns` of the slice; a transfer that pays a cell of the schedule
at each end; a wait that takes a cell's one round.
-/
module

public import proofs.«01_k».proof.Proof.Cells
public import Idealize.ShloMosaic.Lib.Pipeline.Value

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The device's program `p`, run to the postcondition `Q`. -/
abbrev WP (c : Dev nD) {α : Type} (p : P F α) (Q : α → sProp 𝕄) : sProp 𝕄 :=
  wp frame (wpE (defs₀ (F := F)) 𝒱₀ (c : Thread nD τ) none) Set.univ p Q

/-! ## Accesses -/

section Access
variable {sh : Shape} {e : EltTy} (c : Dev nD) (b : Memref sig .tc .vmem sh e) (r : Rect sh) (hr : ∀ a, r.stride a = 1)

theorem wp_load_slice {α : Type} {Q : α → sProp 𝕄} {hl : b.view.LoadsAt r.toLoadRect} {k : (r.shape.Idx → Elt F e) → P F α} {q : PosShare TreeShare} (Z : r.shape.Idx → Elt F e) :
    (owns (c : Thread nD τ) (b.slice r hr) q Z : sProp 𝕄)
      ⊢ iprop((owns (c : Thread nD τ) (b.slice r hr) q Z -∗ WP c (k Z) Q) -∗ WP c (.op (.load b r.toLoadRect hl) k) Q) := by
  unfold owns
  iintro ⟨%f, %hf, H⟩ Hk
  subst hf
  iapply (wp_load_rect 𝒱₀ (c : Thread nD τ) none Set.univ (m := b) (r := r) (S := (b.slice r hr).view.set) (f := f) (Finset.Subset.refl _)) $$ H
  iintro H
  iapply Hk
  iexists f; isplitr
  · ipureintro; rfl
  · iexact H

theorem wp_store_slice {α : Type} {Q : α → sProp 𝕄} {w : r.shape.Idx → Elt F e} {hx : (b.access r).Stores Finset.univ} {hm : (Finset.univ : Finset r.shape.Idx) = Finset.univ ∨ ∀ a, r.stride a = 1} {k : PUnit → P F α}
    (Z : r.shape.Idx → Elt F e) :
    (owns (c : Thread nD τ) (b.slice r hr) fullShare Z : sProp 𝕄)
      ⊢ iprop((owns (c : Thread nD τ) (b.slice r hr) fullShare w -∗ WP c (k ⟨⟩) Q) -∗ WP c (.op (.store b r w Finset.univ hx hm) k) Q) := by
  unfold owns
  iintro ⟨%f, %hf, H⟩ Hk
  iapply (wp_store 𝒱₀ (c : Thread nD τ) none Set.univ (m := b) (r := r) (Mk := Finset.univ) (S := (b.slice r hr).view.set) (f := f)
    (by rw [View.setOn_univ])) $$ H
  iintro H
  iapply Hk
  iexists ((b.access r).write (Elt F) f w Finset.univ); isplitr
  · ipureintro; exact View.read_write_univ (v := b.access r) f w
  · iexact H

end Access

theorem slot_set (b : Memref sig .tc .vmem S4x3x128x128 .bf16) (h : Fin 4) (j : Fin 3) :
    (slot b h j).view.set = (b.slice (slotR h j) (fun _ => rfl)).view.set := by
  exact View.set_reshape _ _

theorem wp_load_slot (c : Dev nD) (b : Memref sig .tc .vmem S4x3x128x128 .bf16) (h : Fin 4) (j : Fin 3) {α : Type} {Q : α → sProp 𝕄}
    {hl : b.view.LoadsAt (slotR h j).toLoadRect} {k : Vec F S1x1x128x128 .bf16 → P F α} {q : PosShare TreeShare} (Z : Blk F .bf16) :
    (owns (c : Thread nD τ) (slot b h j) q Z : sProp 𝕄)
      ⊢ iprop((∀ v, ⌜shapeCast S128x128 v shapeCasts_S1x1x128x128_S128x128 = Z⌝ -∗ owns (c : Thread nD τ) (slot b h j) q Z -∗ WP c (k v) Q)
          -∗ WP c (.op (.load b (slotR h j).toLoadRect hl) k) Q) := by
  unfold owns
  iintro ⟨%f, %hf, H⟩ Hk
  iapply (wp_load_rect 𝒱₀ (c : Thread nD τ) none Set.univ (m := b) (r := slotR h j) (S := (slot b h j).view.set) (f := f)
    (by rw [slot_set])) $$ H
  iintro H
  iapply Hk $$ %((b.access (slotR h j)).read (Elt F) f)
  · ipureintro; exact hf
  iexists f; isplitr
  · ipureintro; exact hf
  · iexact H

/-! ## The schedule's steps -/

variable (X : Dev nD → Vec F S512x256 .f32) (Y : Dev nD → Vec F S256x512 .f32)

/-- A device's cells: the barrier's, and one for each DMA semaphore of the protocol. -/
def key (ck : Dev nD × Option T) : GSem nD τ sig := match ck.2 with
  | none => barCell ck.1
  | some t => cell ck.1 t

/-- What everybody knows: every cell's invariant, that every cell's round is open, and the levels. -/
def records (K : Dev nD × Option T → ℕ) : sProp 𝕄 :=
  iprop((bigSep Finset.univ fun ck : Dev nD × Option T => cellInv ER (Rd X Y) (K ck) (key ck))
    ∗ bigSep Finset.univ fun ck : Dev nD × Option T => reached ER (key ck) 0)
def ctx (K : Dev nD × Option T → ℕ) : sProp 𝕄 := iprop(records X Y K ∗ levAts L lv)

instance records_persistent (K : Dev nD × Option T → ℕ) : BI.Persistent (records X Y K) := by unfold records; infer_instance
instance ctx_persistent (K : Dev nD × Option T → ℕ) : BI.Persistent (ctx X Y K) := by unfold ctx; infer_instance

variable (K : Dev nD × Option T → ℕ)

theorem inv_at (ck : Dev nD × Option T) : (ctx X Y K : sProp 𝕄) ⊢ cellInv ER (Rd X Y) (K ck) (key ck) := by
  unfold ctx records
  iintro ⟨⟨H, -⟩, -⟩
  iapply (show (bigSep Finset.univ fun ck : Dev nD × Option T => cellInv ER (Rd X Y) (K ck) (key ck) : sProp 𝕄) ⊢ cellInv ER (Rd X Y) (K ck) (key ck) from bigSep_elim (Finset.mem_univ ck)); iexact H
theorem reached_at (ck : Dev nD × Option T) : (ctx X Y K : sProp 𝕄) ⊢ reached ER (key ck) 0 := by
  unfold ctx records
  iintro ⟨⟨-, H⟩, -⟩
  iapply (show (bigSep Finset.univ fun ck : Dev nD × Option T => reached ER (key ck) 0 : sProp 𝕄) ⊢ reached ER (key ck) 0 from bigSep_elim (Finset.mem_univ ck)); iexact H
theorem mayWait_at (c : Dev nD) (sm : SemLoc sig) (l : List It) (h : ∀ x ∈ l, lev sm < x.lev) :
    (ctx X Y K : sProp 𝕄) ⊢ MayWait (c : Thread nD τ) sm () (OL c l) := by
  unfold ctx
  iintro ⟨-, H⟩
  iapply (mayWait c sm l h); iexact H

/-- The items of `l` still to be paid. -/
def Ow (c : Dev nD) (l : List It) : sProp 𝕄 := iprop(∃ W, owes (c : Thread nD τ) (OL c l) W)

abbrev tok (g : GSem nD τ sig) (i : Fin 3) : sProp 𝕄 := dutyTok ER g 0 i
abbrev crd (c : Dev nD) (t : T) : sProp 𝕄 := cred (tallyAt (cell c t) () N)
/-- The round of cell `t` not yet taken; taken. -/
abbrev pos (c : Dev nD) (t : T) : sProp 𝕄 := atPos ER (cell c t) 0 ∅ 0
abbrev fin (c : Dev nD) (t : T) : sProp 𝕄 := atPos ER (cell c t) 1 ∅ 0

variable {X Y K}

/-- A wait takes its cell's round and what the transfer hands over. -/
theorem wait_spec (c : Dev nD) (t : T) {sem : DmaSem sig} (hs : sem = dq t) {src dst : Memref sig .tc .vmem S128x128 .bf16}
    {h₁ : src.view.WordExact} {h₂ : dst.view.WordExact} (hN : dst.view.dmaCredit = N) {l : List It} (hl : ∀ x ∈ l, ![0, 2, 0, 3] t.1 < x.lev)
    {Q : PUnit → sProp 𝕄} :
    iprop(ctx X Y K ∗ Ow c l ∗ crd c t ∗ pos c t ∗ ((Ow c l ∗ fin c t ∗ landed X Y c t) -∗ Q ⟨⟩))
      ⊢ WP c (Prog.lift (.waitDma2 sem src dst h₁ h₂)) Q := by
  subst hs
  unfold Ow
  iintro ⟨#Hctx, ⟨%W, HO⟩, Hc, Hat, Hk⟩
  unfold Prog.lift
  iapply (Rounds.wp_wait_rest_token 𝒱₀ ER (Rd X Y) (c : Thread nD τ) none (κ := K (c, some t))
      (wpE_waitDma2_eq 𝒱₀ (c : Thread nD τ) none Set.univ) (Set.mem_univ _) () (O := OL c l) (W := W) (R := 0) (m := 0) (T := ∅)
      (by rw [Nat.zero_add, hN]; exact (expect_cell X Y c t).symm)) $$ [Hc HO Hat]
  · isplitr; · iapply (inv_at X Y K (c, some t)); iexact Hctx
    isplitl [Hc]; · rw [hN]; iexact Hc
    isplitl [HO]; · iexact HO
    isplitr; · iapply (mayWait_at X Y K c (.dma (dq t)) l (by rw [lev_cell]; exact hl)); iexact Hctx
    iexact Hat
  iintro ⟨HO, Hat, -, Hpay⟩
  rw [wp_ret]; imodintro
  iapply Hk
  isplitl [HO]; · iexists _; iexact HO
  isplitl [Hat]; · iexact Hat
  iapply (Entails.of_eq (rest_cell X Y c t)); iexact Hpay

/-- A transfer of `src`, held at share `q` and contents `Z`, pays the cell `tS` of the sender and the cell `tR` of the receiver. -/
theorem send_spec (c c' d : Dev nD) (hd : d = c') (tS tR : T) {sS sR : DmaSem sig} (hS : sS = dq tS) (hR : sR = dq tR)
    {src dst : Memref sig .tc .vmem S128x128 .bf16} {hsc : (show Memref sig (Dev.tc d : Thread nD τ).2.kind .vmem S128x128 .bf16 from dst).view.ref.isScScratch = false}
    {h₁ : src.view.WordExact} {h₂ : dst.view.WordExact} {h₃ : DmaTarget.Typed .vmem (.dma sR) (.remote (Dev.tc d : Thread nD τ) dst (.dma sS) hsc)}
    (hN : dst.view.dmaCredit = N) (x : It) (hx : x.cell c = cell c' tR) (ha : x.amt = N) {l : List It}
    {q : PosShare TreeShare} (Z : Blk F .bf16)
    (hp₁ : (owns (c : Thread nD τ) src q Z : sProp 𝕄) ⊢ landed X Y c tS)
    (hp₂ : (owns (c' : Thread nD τ) dst fullShare Z : sProp 𝕄) ⊢ landed X Y c' tR) {Q : PUnit → sProp 𝕄} :
    iprop(ctx X Y K ∗ Ow c (x :: l) ∗ owns (c : Thread nD τ) src q Z ∗ any c' dst ∗ tok (cell c tS) 0 ∗ tok (cell c' tR) 0
        ∗ ((Ow c l ∗ crd c tS) -∗ Q ⟨⟩))
      ⊢ WP c (Prog.lift (.enqueueDma src (.remote (Dev.tc d : Thread nD τ) dst (.dma sS) hsc) (.dma sR) h₁ h₂ h₃)) Q := by
  subst hd hS hR
  unfold Ow any owns ownsSat
  iintro ⟨#Hctx, ⟨%W, HO⟩, ⟨%fs, %hfs, Hs⟩, ⟨%fd, -, Hd⟩, Ht, Ht', Hk⟩
  subst hfs
  unfold Prog.lift
  iapply (Rounds.wp_send_pointsTo 𝒱₀ ER (Rd X Y) (c : Thread nD τ) none (κ₁ := K (c, some tS)) (κ₂ := K (d, some tR))
    (r₁ := 0) (r₂ := 0) (d₁ := 0) (d₂ := 0) (fs := fs) (fd := fd) (q := q)
    (by rw [duties_cell]; exact Finset.mem_singleton_self _) (by rw [duties_cell]; exact Finset.mem_singleton_self _)
    () () N (show dst.view.amount (SemLoc.dma (sig := sig) (dq tR)) = N from hN) (amount_cell X Y c tS 0) (amount_cell X Y d tR 0) (OL c l) (O₀ := OL c (x :: l)) (by rw [OL_cons, hx, ha]) (W := W)
    (by rw [payload_cell]; exact (owns_intro (c : Thread nD τ) src q fs).trans hp₁)
    (by
      rw [payload_cell]
      refine BIBase.Entails.trans ?_ hp₂
      refine (owns_intro (d : Thread nD τ) dst fullShare _).trans (Entails.of_eq ?_)
      rw [View.read_write_univ])) $$ [HO Hs Hd Ht Ht']
  · isplitr; · iapply (inv_at X Y K (c, some tS)); iexact Hctx
    isplitr; · iapply (inv_at X Y K (d, some tR)); iexact Hctx
    isplitl [Hs]; · iexact Hs
    isplitl [Hd]; · iexact Hd
    isplitl [HO]; · iexact HO
    isplitl [Ht]; · iexact Ht
    isplitr; · iapply (reached_at X Y K (c, some tS)); iexact Hctx
    isplitl [Ht']; · iexact Ht'
    iapply (reached_at X Y K (d, some tR)); iexact Hctx
  iintro ⟨Hc, HO⟩
  rw [wp_ret]; imodintro
  iapply Hk
  isplitl [HO]; · iexists W; iexact HO
  iexact Hc

/-- A signal pays one of the receiver's barrier cell's three duties with the slots in which the signaller will receive. -/
theorem signal_spec (c d : Dev nD) (j : Fin 3) (hd : d = tgt c j) {l : List It} {Q : PUnit → sProp 𝕄} :
    iprop(ctx X Y K ∗ Ow c (.bar j :: l) ∗ slots c j.rev ∗ tok (barCell (tgt c j)) j.rev ∗ (Ow c l -∗ Q ⟨⟩))
      ⊢ WP c (semSignalWord d (barrier : Sems sig S_).sem 1#32) Q := by
  subst hd
  unfold Ow
  iintro ⟨#Hctx, ⟨%W, HO⟩, Hs, Ht, Hk⟩
  unfold semSignalWord
  iapply (Rounds.wp_signal 𝒱₀ ER (Rd X Y) (c : Thread nD τ) none (dst := (tgt c j : Thread nD τ)) (κ := K (tgt c j, none))
      (d := j.rev) (by rw [duties_bar]; exact Finset.mem_univ _) ((amount_bar X Y (tgt c j) j.rev).trans (by decide)) () (OL c l) rfl)
    $$ [HO Ht Hs]
  · isplitr; · iapply (inv_at X Y K (tgt c j, none)); iexact Hctx
    isplitl [HO]; · iexact HO
    isplitl [Ht]; · iexact Ht
    isplitl [Hs]
    · rw [payload_bar, tgt_rev]; iexact Hs
    iapply (reached_at X Y K (tgt c j, none)); iexact Hctx
  iintro HO
  rw [wp_ret]; imodintro
  iapply Hk
  iexists W; iexact HO

/-- The wait for the three signals: every other device's slots in which this one will land. -/
theorem barrier_spec (c : Dev nD) {l : List It} (hl : ∀ x ∈ l, 1 < x.lev) {Q : PUnit → sProp 𝕄} :
    iprop(ctx X Y K ∗ Ow c l ∗ cred (tallyAt (barCell c) () 3) ∗ atPos ER (barCell c) 0 ∅ 0
        ∗ ((Ow c l ∗ atPos ER (barCell c) 1 ∅ 0 ∗ bigSep Finset.univ fun i : Fin 3 => slots (tgt c i) i) -∗ Q ⟨⟩))
      ⊢ WP c (semWaitWord (barrier : Sems sig S_).sem 3#32) Q := by
  unfold Ow
  iintro ⟨#Hctx, ⟨%W, HO⟩, Hc, Hat, Hk⟩
  unfold semWaitWord
  iapply (Rounds.wp_wait_rest_token 𝒱₀ ER (Rd X Y) (c : Thread nD τ) none (κ := K (c, none))
      (wpE_semWait_eq 𝒱₀ (c : Thread nD τ) none Set.univ) (Set.mem_univ _) () (O := OL c l) (W := W) (R := 0) (m := 0) (T := ∅)
      (by rw [expect_bar]; decide)) $$ [Hc HO Hat]
  · isplitr; · iapply (inv_at X Y K (c, none)); iexact Hctx
    isplitl [Hc]; · iexact Hc
    isplitl [HO]; · iexact HO
    isplitr; · iapply (mayWait_at X Y K c (.reg barS) l hl); iexact Hctx
    iexact Hat
  iintro ⟨HO, Hat, -, Hpay⟩
  rw [wp_ret]; imodintro
  iapply Hk
  isplitl [HO]; · iexists _; iexact HO
  isplitl [Hat]; · iexact Hat
  iapply (Entails.of_eq (rest_bar X Y c)); iexact Hpay

end Cert.KProof

end
-- ==== Proof.Phases.lean ====
/-
# The body's pieces, by column group

Each piece of the body against what it takes and what it leaves, for any group `h`: three transfers, three waits, three
slots at a time.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- Over all devices: the device itself and the three further round the ring. -/
theorem bigSep_ring (c : Dev nD) (Φ : Fin 4 → sProp 𝕄) :
    bigSep Finset.univ Φ = iprop(Φ c ∗ bigSep Finset.univ fun j : Fin 3 => Φ (tgt c j)) := by
  rw [bigSep_three]
  exact bigSep_univ_eq_bigSepL [c, tgt c 0, tgt c 1, tgt c 2] (by revert c; decide) (by revert c; decide) Φ

theorem wp_done (c : Dev nD) {α : Type} {a : α} {Q : α → sProp 𝕄} : (Q a : sProp 𝕄) ⊢ WP c (Prog.ret a) Q := by
  unfold WP; rw [wp_ret]; exact fupd_intro
theorem wp_seq (c : Dev nD) {α β : Type} (p : P F α) (k : α → P F β) (Q : β → sProp 𝕄) : (WP c (p >>= k) Q : sProp 𝕄) = WP c p fun a => WP c (k a) Q :=
  wp_bind _ _ _ p k Q

/-! ## Accesses to a whole buffer and to a part of what is owned -/

section Access
variable {sh : Shape} {e : EltTy} (c : Dev nD) (b : Memref sig .tc .vmem sh e)

theorem wp_load_part (r : Rect sh) {α : Type} {Q : α → sProp 𝕄} {hl : b.view.LoadsAt r.toLoadRect} {k : (r.shape.Idx → Elt F e) → P F α} {q : PosShare TreeShare} (Z : sh.Idx → Elt F e) :
    (owns (c : Thread nD τ) b q Z : sProp 𝕄)
      ⊢ iprop((owns (c : Thread nD τ) b q Z -∗ WP c (k fun i => Z (r.emb i)) Q) -∗ WP c (.op (.load b r.toLoadRect hl) k) Q) := by
  unfold owns
  iintro ⟨%f, %hf, H⟩ Hk
  subst hf
  iapply (wp_load_rect 𝒱₀ (c : Thread nD τ) none Set.univ (m := b) (r := r) (S := b.view.set) (f := f) (b.view.set_slice_subset r)) $$ H
  iintro H
  iapply Hk
  iexists f; isplitr
  · ipureintro; rfl
  · iexact H

theorem emb_zero {off : Fin sh.rank → ℕ} (hz : off = fun _ => 0) (inb : ∀ a, off a + sh.size a ≤ sh.size a) (i : sh.Idx) :
    (Rect.unit (s := sh) off sh.size inb).emb i = i := by
  subst hz
  funext a
  apply Fin.ext
  simp

theorem wp_load_full {off : Fin sh.rank → ℕ} (hz : off = fun _ => 0) {inb : ∀ a, off a + sh.size a ≤ sh.size a} {α : Type} {Q : α → sProp 𝕄}
    {hl : b.view.LoadsAt (Rect.unit (s := sh) off sh.size inb).toLoadRect} {k : (sh.Idx → Elt F e) → P F α} {q : PosShare TreeShare} (Z : sh.Idx → Elt F e) :
    (owns (c : Thread nD τ) b q Z : sProp 𝕄)
      ⊢ iprop((owns (c : Thread nD τ) b q Z -∗ WP c (k Z) Q) -∗ WP c (.op (.load b (Rect.unit (s := sh) off sh.size inb).toLoadRect hl) k) Q) := by
  have h : (fun i : (Rect.unit (s := sh) off sh.size inb).shape.Idx => Z ((Rect.unit (s := sh) off sh.size inb).emb i)) = Z :=
    funext fun i => congrArg Z (emb_zero hz inb i)
  refine (wp_load_part c b (Rect.unit (s := sh) off sh.size inb) (hl := hl) (k := k) (Q := Q) Z).trans (Entails.of_eq ?_)
  rw [h]

theorem wp_store_full {off : Fin sh.rank → ℕ} (hz : off = fun _ => 0) {inb : ∀ a, off a + sh.size a ≤ sh.size a} {α : Type} {Q : α → sProp 𝕄}
    {w : sh.Idx → Elt F e} {hx : (b.access (Rect.unit (s := sh) off sh.size inb)).Stores Finset.univ}
    {hm : (Finset.univ : Finset (Rect.unit (s := sh) off sh.size inb).shape.Idx) = Finset.univ ∨ ∀ a, (Rect.unit (s := sh) off sh.size inb).stride a = 1} {k : PUnit → P F α}
    (Z : sh.Idx → Elt F e) :
    (owns (c : Thread nD τ) b fullShare Z : sProp 𝕄)
      ⊢ iprop((owns (c : Thread nD τ) b fullShare w -∗ WP c (k ⟨⟩) Q) -∗ WP c (.op (.store b (Rect.unit (s := sh) off sh.size inb) w Finset.univ hx hm) k) Q) := by
  unfold owns
  iintro ⟨%f, %hf, H⟩ Hk
  iapply (wp_store 𝒱₀ (c : Thread nD τ) none Set.univ (m := b) (r := Rect.unit (s := sh) off sh.size inb) (Mk := Finset.univ) (S := b.view.set) (f := f)
    (by rw [View.setOn_univ]; exact b.view.set_slice_subset _)) $$ H
  iintro H
  iapply Hk
  iexists ((b.access (Rect.unit (s := sh) off sh.size inb)).write (Elt F) f w Finset.univ); isplitr
  · ipureintro
    refine Eq.trans (funext fun i => ?_) (View.read_write_univ (v := b.access (Rect.unit (s := sh) off sh.size inb)) f w)
    exact congrArg (b.view.read (Elt F) ((b.access (Rect.unit (s := sh) off sh.size inb)).write (Elt F) f w Finset.univ)) (emb_zero hz inb i).symm
  · iexact H

end Access

/-! ## The blocks of a column group -/

/-- Row chunk `r` of the columns of group `h` is the block there. -/
theorem strip_row (r h : Fin 4) (i : S128x128.Idx) : (stripR h).emb ((rowR r).emb i) = (blkR r h).emb i := by
  funext a
  apply Fin.ext
  fin_cases a
  · simp
  · simp

abbrev strip (h : Fin 4) : Memref sig .tc .vmem S512x128 .bf16 := pM.slice (stripR h) (fun _ => rfl)

theorem owns_row (c : Dev nD) (r h : Fin 4) (q : PosShare TreeShare) (Z : Blk F .bf16) :
    (owns (c : Thread nD τ) ((strip h).slice (rowR r) (fun _ => rfl)) q Z : sProp 𝕄) = owns (c : Thread nD τ) (blk r h) q Z := by
  have hread (f : Buf (Elt F) ((c : Thread nD τ).loc cc0_scratch0)) :
      ((strip h).slice (rowR r) (fun _ => rfl)).view.read (Elt F) f = (blk r h).view.read (Elt F) f := by
    funext i
    show f ((stripR h).emb ((rowR r).emb i)) = f ((blkR r h).emb i)
    rw [strip_row]
  have hset : ((strip h).slice (rowR r) (fun _ => rfl)).view.set = (blk r h).view.set :=
    congrArg (fun e : S128x128.Idx ↪ S512x512.Idx => Finset.univ.map e) (Function.Embedding.ext fun i => strip_row r h i)
  show iprop(∃ f : Buf (Elt F) ((c : Thread nD τ).loc cc0_scratch0), ⌜((strip h).slice (rowR r) (fun _ => rfl)).view.read (Elt F) f = Z⌝ ∗ (((c : Thread nD τ).loc cc0_scratch0) ↦[((strip h).slice (rowR r) (fun _ => rfl)).view.set]{q} f))
    = iprop(∃ f : Buf (Elt F) ((c : Thread nD τ).loc cc0_scratch0), ⌜(blk r h).view.read (Elt F) f = Z⌝ ∗ (((c : Thread nD τ).loc cc0_scratch0) ↦[(blk r h).view.set]{q} f))
  rw [hset]
  simp only [hread]

theorem any_row (c : Dev nD) (r h : Fin 4) :
    (any c (blk r h) : sProp 𝕄) ⊢ any c ((strip h).slice (rowR r) (fun _ => rfl)) := by
  refine (ownsSat_true (c : Thread nD τ) (blk r h) fullShare).1.trans ?_
  iintro ⟨%Z, H⟩
  iapply (ownsSat_intro (c : Thread nD τ) ((strip h).slice (rowR r) (fun _ => rfl)) fullShare (X := Z) trivial)
  rw [owns_row]; iexact H

theorem row_disjoint (t t' : Fin 4) (h : t ≠ t') : Disjoint (rowR t).set (rowR t').set := by
  refine Rect.unit_disjoint 0 ?_
  show 128 * t.val + 128 ≤ 128 * t'.val ∨ 128 * t'.val + 128 ≤ 128 * t.val
  have : t.val ≠ t'.val := fun e => h (Fin.ext e)
  omega
theorem row_cover : (Finset.univ : Finset (Fin 4)).biUnion (fun t => (rowR t).set) = Finset.univ := by
  refine Finset.eq_univ_of_forall fun i => Finset.mem_biUnion.mpr ?_
  have h0 : (i 0).val < 512 := (i 0).isLt
  have h1 : (i 1).val < 128 := (i 1).isLt
  refine ⟨⟨(i 0).val / 128, by omega⟩, Finset.mem_univ _, Rect.mem_set_unit.mpr fun a => ?_⟩
  fin_cases a
  · show 128 * ((i 0).val / 128) ≤ (i 0).val ∧ (i 0).val < 128 * ((i 0).val / 128) + 128
    omega
  · show 0 ≤ (i 1).val ∧ (i 1).val < 0 + 128
    omega

/-- The columns of group `h`, at any contents, from the four blocks; and the four blocks of their contents. -/
theorem strip_join (c : Dev nD) (h : Fin 4) :
    (iprop(any c (blk c h) ∗ bigSep Finset.univ fun j : Fin 3 => any c (blk (tgt c j) h)) : sProp 𝕄) ⊢ any c (strip h) := by
  rw [← bigSep_ring c fun r => any c (blk r h)]
  refine (bigSep_mono fun r _ => any_row c r h).trans ?_
  refine (ownsSat_of_rects (c : Thread nD τ) (strip h) fullShare rowR (fun _ _ => rfl) row_disjoint row_cover (fun _ _ => True)).trans ?_
  exact ownsSat_mono (c : Thread nD τ) (strip h) fullShare fun _ _ => trivial
theorem strip_split (c : Dev nD) (h : Fin 4) (Z : S512x128.Idx → Elt F .bf16) :
    (owns (c : Thread nD τ) (strip h) fullShare Z : sProp 𝕄)
      ⊢ iprop(owns (c : Thread nD τ) (blk c h) fullShare (fun i => Z ((rowR c).emb i))
          ∗ bigSep Finset.univ fun j : Fin 3 => owns (c : Thread nD τ) (blk (tgt c j) h) fullShare (fun i => Z ((rowR (tgt c j)).emb i))) := by
  rw [← bigSep_ring c fun r => owns (c : Thread nD τ) (blk r h) fullShare (fun i => Z ((rowR r).emb i))]
  refine (owns_rects (c : Thread nD τ) (strip h) fullShare rowR (fun _ _ => rfl) row_disjoint row_cover Z).trans ?_
  exact bigSep_mono fun r _ => Entails.of_eq (owns_row c r h fullShare _)

/-! ## The operands, and a group's partial product -/

variable (X : Dev nD → Vec F S512x256 .f32) (Y : Dev nD → Vec F S256x512 .f32) (K : Dev nD × Option T → ℕ)

/-- The two operands narrowed, in their buffers. -/
def ops (c : Dev nD) : sProp 𝕄 :=
  iprop(owns (c : Thread nD τ) xM fullShare (k0_pay1 (X c)) ∗ owns (c : Thread nD τ) yM fullShare (k0_pay2 (Y c)))

theorem zero_off : (![0, 0] : Fin 2 → ℕ) = fun _ => 0 := by decide

theorem narrow_spec (c : Dev nD) {Q : PUnit → sProp 𝕄} :
    iprop(owns (c : Thread nD τ) aM fullShare (X c) ∗ owns (c : Thread nD τ) bM fullShare (Y c) ∗ any c xM ∗ any c yM
        ∗ ((owns (c : Thread nD τ) aM fullShare (X c) ∗ owns (c : Thread nD τ) bM fullShare (Y c) ∗ ops X Y c) -∗ Q ⟨⟩))
      ⊢ WP c narrow Q := by
  iintro ⟨Ha, Hb, Hx, Hy, Hk⟩
  ihave Hx := (ownsSat_any (c : Thread nD τ) xM fullShare) $$ Hx
  icases Hx with ⟨%x, Hx⟩
  ihave Hy := (ownsSat_any (c : Thread nD τ) yM fullShare) $$ Hy
  icases Hy with ⟨%y, Hy⟩
  unfold narrow ops
  simp only [Prog.lift, Prog.bind_op, Prog.bind_ret]
  iapply (wp_load_full c aM zero_off (X c)) $$ Ha
  iintro Ha
  iapply (wp_load_full c xM zero_off x) $$ Hx
  iintro Hx
  iapply (wp_store_full c xM zero_off x) $$ Hx
  iintro Hx
  iapply (wp_load_full c bM zero_off (Y c)) $$ Hb
  iintro Hb
  iapply (wp_load_full c yM zero_off y) $$ Hy
  iintro Hy
  iapply (wp_store_full c yM zero_off y) $$ Hy
  iintro Hy
  iapply (wp_done c)
  iapply Hk
  isplitl [Ha]; · iexact Ha
  isplitl [Hb]; · iexact Hb
  isplitl [Hx]; · iexact Hx
  iexact Hy

theorem half_spec (c : Dev nD) (h : Fin 4) {Q : PUnit → sProp 𝕄} :
    iprop(ops X Y c ∗ any c (blk c h) ∗ (bigSep Finset.univ fun j : Fin 3 => any c (blk (tgt c j) h))
        ∗ ((ops X Y c ∗ owns (c : Thread nD τ) (blk c h) fullShare (pblk X Y c c h)
            ∗ bigSep Finset.univ fun j : Fin 3 => owns (c : Thread nD τ) (blk (tgt c j) h) fullShare (pblk X Y c (tgt c j) h)) -∗ Q ⟨⟩))
      ⊢ WP c (half h) Q := by
  iintro ⟨Ho, H1, H2, Hk⟩
  ihave Hs := (strip_join c h) $$ [H1 H2]
  · isplitl [H1] <;> iassumption
  ihave Hs := (ownsSat_any (c : Thread nD τ) (strip h) fullShare) $$ Hs
  icases Hs with ⟨%z, Hs⟩
  unfold half ops
  icases Ho with ⟨Hx, Hy⟩
  simp only [Prog.lift, Prog.bind_op, Prog.bind_ret]
  iapply (wp_load_full c xM zero_off (k0_pay1 (X c))) $$ Hx
  iintro Hx
  iapply (wp_load_part c yM (colR h) (k0_pay2 (Y c))) $$ Hy
  iintro Hy
  iapply (wp_load_slice c pM (stripR h) (fun _ => rfl) z) $$ Hs
  iintro Hs
  iapply (wp_store_slice c pM (stripR h) (fun _ => rfl) z) $$ Hs
  iintro Hs
  iapply (wp_done c)
  iapply Hk
  isplitl [Hx Hy]
  · isplitl [Hx] <;> iassumption
  iapply (strip_split c h (part X Y c h)); iexact Hs

/-! ## The printed addresses -/

theorem pBlk_eq {off : Fin 2 → ℕ} {r h : Fin 4} (e : off = ![128 * r.val, 128 * h.val]) (p : ∀ a, off a + S128x128.size a ≤ S512x512.size a) :
    pBlk off p = blk r h := by subst e; rfl

set_option backward.proofsInPublic true in
/-- The block of the result at row chunk `r`, column group `h`. -/
abbrev oblk (r h : Fin 4) : Memref sig .tc .vmem S128x128 .f32 := oM.slice (blkR r h) (fun _ => rfl)
abbrev oBlk (off : Fin 2 → ℕ) (p : ∀ a, off a + S128x128.size a ≤ S512x512.size a) : Memref sig .tc .vmem S128x128 .f32 :=
  oM.slice (Rect.unit (s := S512x512) off S128x128.size p) (fun _ => rfl)
theorem oBlk_eq {off : Fin 2 → ℕ} {r h : Fin 4} (e : off = ![128 * r.val, 128 * h.val]) (p : ∀ a, off a + S128x128.size a ≤ S512x512.size a) :
    oBlk off p = oblk r h := by subst e; rfl

/-! ## One transfer, one wait -/

variable {X Y K}

theorem rsSend_spec (c : Dev nD) (h : Fin 4) (j : Fin 3) {l : List It} {Q : PUnit → sProp 𝕄} :
    iprop(ctx X Y K ∗ Ow c (.rs h j :: l) ∗ owns (c : Thread nD τ) (blk (tgt c j) h) fullShare (pblk X Y c (tgt c j) h) ∗ any (tgt c j) (slot rM h j)
        ∗ tok (cell c (0, h, j)) 0 ∗ tok (cell (tgt c j) (1, h, j)) 0 ∗ ((Ow c l ∗ crd c (0, h, j)) -∗ Q ⟨⟩))
      ⊢ WP c (rsSend c h j) Q := by
  rw [← pBlk_eq (rsOff_eq h j c) (rsOff_inb h j c)]
  refine send_spec c (tgt c j) ⟨rsDev h j c, rsDev_lt h j c⟩ (Fin.ext (rsDev_eq h j c)) (0, h, j) (1, h, j) (sem5_eq h j) (sem6_eq h j)
    (credit_r h j) (.rs h j) rfl rfl (pblk X Y c (tgt c j) h) ?_ ?_
  · show _ ⊢ any c (blk (tgt c j) h)
    rw [pBlk_eq (rsOff_eq h j c)]
    exact ownsSat_intro (c : Thread nD τ) (blk (tgt c j) h) fullShare trivial
  · show _ ⊢ owns (tgt c j : Thread nD τ) (slot rM h j) fullShare (pblk X Y (tgt (tgt c j) j.rev) (tgt c j) h)
    rw [tgt_rev]

theorem agSend_spec (c : Dev nD) (h : Fin 4) (j : Fin 3) {l : List It} {Q : PUnit → sProp 𝕄} :
    iprop(ctx X Y K ∗ Ow c (.ag h j :: l) ∗ owns (c : Thread nD τ) (blk c h) (third j) (totalB X Y c h) ∗ any (tgt c j) (slot gM h j)
        ∗ tok (cell c (2, h, j)) 0 ∗ tok (cell (tgt c j) (3, h, j)) 0 ∗ ((Ow c l ∗ crd c (2, h, j)) -∗ Q ⟨⟩))
      ⊢ WP c (agSend c h j) Q := by
  rw [← pBlk_eq (agOff_eq h c) (agOff_inb h c)]
  refine send_spec c (tgt c j) ⟨agDev h j c, agDev_lt h j c⟩ (Fin.ext (agDev_eq h j c)) (2, h, j) (3, h, j) (sem7_eq h j) (sem8_eq h j)
    (credit_g h j) (.ag h j) rfl rfl (totalB X Y c h) ?_ ?_
  · show _ ⊢ ownsSat (c : Thread nD τ) (blk c h) (third j) (fun _ => True)
    rw [pBlk_eq (agOff_eq h c)]
    exact ownsSat_intro (c : Thread nD τ) (blk c h) (third j) trivial
  · show _ ⊢ owns (tgt c j : Thread nD τ) (slot gM h j) fullShare (totalB X Y (tgt (tgt c j) j.rev) h)
    rw [tgt_rev]

theorem rsRecv_spec (c : Dev nD) (h : Fin 4) (j : Fin 3) {l : List It} (hl : ∀ x ∈ l, 2 < x.lev) {Q : PUnit → sProp 𝕄} :
    iprop(ctx X Y K ∗ Ow c l ∗ crd c (1, h, j) ∗ pos c (1, h, j)
        ∗ ((Ow c l ∗ fin c (1, h, j) ∗ owns (c : Thread nD τ) (slot rM h j) fullShare (pblk X Y (tgt c j.rev) c h)) -∗ Q ⟨⟩))
      ⊢ WP c (rsRecv c h j) Q :=
  wait_spec c (1, h, j) (sem6_eq h j) (credit_r h j) hl
theorem agRecv_spec (c : Dev nD) (h : Fin 4) (j : Fin 3) {Q : PUnit → sProp 𝕄} :
    iprop(ctx X Y K ∗ Ow c [] ∗ crd c (3, h, j) ∗ pos c (3, h, j)
        ∗ ((Ow c [] ∗ fin c (3, h, j) ∗ owns (c : Thread nD τ) (slot gM h j) fullShare (totalB X Y (tgt c j.rev) h)) -∗ Q ⟨⟩))
      ⊢ WP c (agRecv c h j) Q :=
  wait_spec c (3, h, j) (sem8_eq h j) (credit_g h j) (fun _ hx => absurd hx List.not_mem_nil)
theorem rsDone_spec (c : Dev nD) (h : Fin 4) (j : Fin 3) {Q : PUnit → sProp 𝕄} :
    iprop(ctx X Y K ∗ Ow c [] ∗ crd c (0, h, j) ∗ pos c (0, h, j) ∗ ((Ow c [] ∗ fin c (0, h, j) ∗ any c (blk (tgt c j) h)) -∗ Q ⟨⟩))
      ⊢ WP c (rsDone c h j) Q :=
  wait_spec c (0, h, j) (sem5_eq h j) (credit_b _ _) (fun _ hx => absurd hx List.not_mem_nil)
theorem agDone_spec (c : Dev nD) (h : Fin 4) (j : Fin 3) {Q : PUnit → sProp 𝕄} :
    iprop(ctx X Y K ∗ Ow c [] ∗ crd c (2, h, j) ∗ pos c (2, h, j)
        ∗ ((Ow c [] ∗ fin c (2, h, j) ∗ ownsSat (c : Thread nD τ) (blk c h) (third j) (fun _ => True)) -∗ Q ⟨⟩))
      ⊢ WP c (agDone c h j) Q :=
  wait_spec c (2, h, j) (sem7_eq h j) (credit_b _ _) (fun _ hx => absurd hx List.not_mem_nil)

/-! ## The sum, and what is kept of it and of the chunks received -/

theorem reduce_spec (c : Dev nD) (h : Fin 4) (p r0 r1 r2 : Blk F .bf16) (s : Blk F .f32) (hs : s = acc p r0 r1 r2)
    (n : Blk F .bf16) (hn : n = shapeCast S128x128 (truncf .bf16 (show FVec F S128x128 .f32 from s) bitsLt_bf16_f32) shapeCasts_S128x128_S128x128)
    {Q : FVec F S128x128 .f32 → sProp 𝕄} :
    iprop(owns (c : Thread nD τ) (blk c h) fullShare p ∗ owns (c : Thread nD τ) (slot rM h 0) fullShare r0
        ∗ owns (c : Thread nD τ) (slot rM h 1) fullShare r1 ∗ owns (c : Thread nD τ) (slot rM h 2) fullShare r2
        ∗ ((owns (c : Thread nD τ) (blk c h) fullShare n ∗ (bigSep Finset.univ fun j : Fin 3 => any c (slot rM h j))) -∗ Q s))
      ⊢ WP c (reduce c h) Q := by
  rw [← pBlk_eq (ownOff_eq h c) (ownOff_inb h c)]
  iintro ⟨Hp, H0, H1, H2, Hk⟩
  unfold reduce
  simp only [Prog.lift, Prog.bind_op, Prog.bind_ret]
  iapply (wp_load_slice c pM (Rect.unit (s := S512x512) (ownOff h c) S128x128.size (ownOff_inb h c)) (fun _ => rfl) p) $$ Hp
  iintro Hp
  iapply (wp_load_slot c rM h 0 r0) $$ H0
  iintro %v0 %e0 H0
  iapply (wp_load_slot c rM h 1 r1) $$ H1
  iintro %v1 %e1 H1
  iapply (wp_load_slot c rM h 2 r2) $$ H2
  iintro %v2 %e2 H2
  subst e0 e1 e2
  subst hn hs
  iapply (wp_load_slice c pM (Rect.unit (s := S512x512) (ownOff h c) S128x128.size (ownOff_inb h c)) (fun _ => rfl) p) $$ Hp
  iintro Hp
  iapply (wp_store_slice c pM (Rect.unit (s := S512x512) (ownOff h c) S128x128.size (ownOff_inb h c)) (fun _ => rfl) p) $$ Hp
  iintro Hp
  iapply (wp_done c)
  rw [show k0_pay16 p v0 v1 v2 = acc p (shapeCast S128x128 v0 shapeCasts_S1x1x128x128_S128x128) (shapeCast S128x128 v1 shapeCasts_S1x1x128x128_S128x128)
    (shapeCast S128x128 v2 shapeCasts_S1x1x128x128_S128x128) from rfl]
  iapply Hk
  isplitl [Hp]; · iexact Hp
  rw [bigSep_three]
  isplitl [H0]; · iapply (ownsSat_intro (c : Thread nD τ) (slot rM h 0) fullShare (Φ := fun _ => True) trivial) $$ H0
  isplitl [H1]; · iapply (ownsSat_intro (c : Thread nD τ) (slot rM h 1) fullShare (Φ := fun _ => True) trivial) $$ H1
  iapply (ownsSat_intro (c : Thread nD τ) (slot rM h 2) fullShare (Φ := fun _ => True) trivial) $$ H2

theorem keep_spec (c : Dev nD) (h : Fin 4) (v : FVec F S128x128 .f32) {Q : PUnit → sProp 𝕄} :
    iprop(any c (oblk c h) ∗ (owns (c : Thread nD τ) (oblk c h) fullShare v -∗ Q ⟨⟩)) ⊢ WP c (keep c h v) Q := by
  rw [← oBlk_eq (ownOff_eq h c) (ownOff_inb h c)]
  iintro ⟨H, Hk⟩
  ihave H := (ownsSat_any (c : Thread nD τ) (oBlk (ownOff h c) (ownOff_inb h c)) fullShare) $$ H
  icases H with ⟨%z, H⟩
  unfold keep
  simp only [Prog.lift, Prog.bind_op, Prog.bind_ret]
  iapply (wp_load_slice c oM (Rect.unit (s := S512x512) (ownOff h c) S128x128.size (ownOff_inb h c)) (fun _ => rfl) z) $$ H
  iintro H
  iapply (wp_store_slice c oM (Rect.unit (s := S512x512) (ownOff h c) S128x128.size (ownOff_inb h c)) (fun _ => rfl) z) $$ H
  iintro H
  iapply (wp_done c)
  iapply Hk; iexact H

theorem gather_spec (c : Dev nD) (h : Fin 4) (j : Fin 3) (Z : Blk F .bf16) {Q : PUnit → sProp 𝕄} :
    iprop(owns (c : Thread nD τ) (slot gM h j) fullShare Z ∗ any c (oblk (tgt c j.rev) h)
        ∗ ((any c (slot gM h j) ∗ owns (c : Thread nD τ) (oblk (tgt c j.rev) h) fullShare (wide Z)) -∗ Q ⟨⟩)) ⊢ WP c (gather c h j) Q := by
  rw [← oBlk_eq (outOff_eq h j c) (outOff_inb h j c)]
  iintro ⟨Hs, H, Hk⟩
  ihave H := (ownsSat_any (c : Thread nD τ) (oBlk (outOff h j c) (outOff_inb h j c)) fullShare) $$ H
  icases H with ⟨%z, H⟩
  unfold gather
  simp only [Prog.lift, Prog.bind_op, Prog.bind_ret]
  iapply (wp_load_slot c gM h j Z) $$ Hs
  iintro %v %e Hs
  subst e
  iapply (wp_load_slice c oM (Rect.unit (s := S512x512) (outOff h j c) S128x128.size (outOff_inb h j c)) (fun _ => rfl) z) $$ H
  iintro H
  iapply (wp_store_slice c oM (Rect.unit (s := S512x512) (outOff h j c) S128x128.size (outOff_inb h j c)) (fun _ => rfl) z) $$ H
  iintro H
  iapply (wp_done c)
  iapply Hk
  isplitl [Hs]; · iapply (ownsSat_intro (c : Thread nD τ) (slot gM h j) fullShare (Φ := fun _ => True) trivial) $$ Hs
  iexact H

/-! ## A group's pieces -/

/-- Of the three cells `(g, h, ·)` of device `c`: their rounds not yet taken, taken; the waits they grant; the right to pay
    their duty; the right to pay those of the devices further round. -/
def posG (c : Dev nD) (g h : Fin 4) : sProp 𝕄 := bigSep Finset.univ fun j : Fin 3 => pos c (g, h, j)
def finG (c : Dev nD) (g h : Fin 4) : sProp 𝕄 := bigSep Finset.univ fun j : Fin 3 => fin c (g, h, j)
def crdG (c : Dev nD) (g h : Fin 4) : sProp 𝕄 := bigSep Finset.univ fun j : Fin 3 => crd c (g, h, j)
def tokS (c : Dev nD) (g h : Fin 4) : sProp 𝕄 := bigSep Finset.univ fun j : Fin 3 => tok (cell c (g, h, j)) 0
def tokR (c : Dev nD) (g h : Fin 4) : sProp 𝕄 := bigSep Finset.univ fun j : Fin 3 => tok (cell (tgt c j) (g, h, j)) 0

theorem sends_spec (c : Dev nD) (h : Fin 4) {l : List It} {Q : PUnit → sProp 𝕄} :
    iprop(ctx X Y K ∗ Ow c (rsIts h ++ l)
        ∗ (bigSep Finset.univ fun j : Fin 3 => owns (c : Thread nD τ) (blk (tgt c j) h) fullShare (pblk X Y c (tgt c j) h))
        ∗ (bigSep Finset.univ fun j : Fin 3 => any (tgt c j) (slot rM h j)) ∗ tokS c 0 h ∗ tokR c 1 h
        ∗ ((Ow c l ∗ crdG c 0 h) -∗ Q ⟨⟩))
      ⊢ WP c (sends c h) Q := by
  unfold tokS tokR crdG sends
  simp only [bigSep_three, wp_seq]
  iintro ⟨#Hctx, HO, ⟨B0, B1, B2⟩, ⟨S0, S1, S2⟩, ⟨T0, T1, T2⟩, ⟨R0, R1, R2⟩, Hk⟩
  iapply (rsSend_spec c h 1)
  isplitr; · iexact Hctx
  isplitl [HO]; · iexact HO
  isplitl [B1]; · iexact B1
  isplitl [S1]; · iexact S1
  isplitl [T1]; · iexact T1
  isplitl [R1]; · iexact R1
  iintro ⟨HO, C1⟩
  iapply (rsSend_spec c h 0)
  isplitr; · iexact Hctx
  isplitl [HO]; · iexact HO
  isplitl [B0]; · iexact B0
  isplitl [S0]; · iexact S0
  isplitl [T0]; · iexact T0
  isplitl [R0]; · iexact R0
  iintro ⟨HO, C0⟩
  iapply (rsSend_spec c h 2)
  isplitr; · iexact Hctx
  isplitl [HO]; · iexact HO
  isplitl [B2]; · iexact B2
  isplitl [S2]; · iexact S2
  isplitl [T2]; · iexact T2
  isplitl [R2]; · iexact R2
  iintro ⟨HO, C2⟩
  iapply Hk
  isplitl [HO]; · iexact HO
  isplitl [C0]; · iexact C0
  isplitl [C1] <;> iassumption

theorem rsDrain_spec (c : Dev nD) (h : Fin 4) {Q : PUnit → sProp 𝕄} :
    iprop(ctx X Y K ∗ Ow c [] ∗ (crdG c 0 h ∗ posG c 0 h)
        ∗ ((Ow c [] ∗ finG c 0 h ∗ bigSep Finset.univ fun j : Fin 3 => any c (blk (tgt c j) h)) -∗ Q ⟨⟩))
      ⊢ WP c (rsDrain c h) Q := by
  unfold crdG posG finG rsDrain
  simp only [bigSep_three, wp_seq]
  iintro ⟨#Hctx, HO, ⟨⟨C0, C1, C2⟩, ⟨P0, P1, P2⟩⟩, Hk⟩
  iapply (rsDone_spec c h 1)
  isplitr; · iexact Hctx
  isplitl [HO]; · iexact HO
  isplitl [C1]; · iexact C1
  isplitl [P1]; · iexact P1
  iintro ⟨HO, P1, B1⟩
  iapply (rsDone_spec c h 0)
  isplitr; · iexact Hctx
  isplitl [HO]; · iexact HO
  isplitl [C0]; · iexact C0
  isplitl [P0]; · iexact P0
  iintro ⟨HO, P0, B0⟩
  iapply (rsDone_spec c h 2)
  isplitr; · iexact Hctx
  isplitl [HO]; · iexact HO
  isplitl [C2]; · iexact C2
  isplitl [P2]; · iexact P2
  iintro ⟨HO, P2, B2⟩
  iapply Hk
  isplitl [HO]; · iexact HO
  isplitl [P0 P1 P2]
  · isplitl [P0]; · iexact P0
    isplitl [P1] <;> iassumption
  isplitl [B0]; · iexact B0
  isplitl [B1] <;> iassumption

theorem agDrain_spec (c : Dev nD) (h : Fin 4) {Q : PUnit → sProp 𝕄} :
    iprop(ctx X Y K ∗ Ow c [] ∗ (crdG c 2 h ∗ posG c 2 h) ∗ ((Ow c [] ∗ finG c 2 h ∗ any c (blk c h)) -∗ Q ⟨⟩))
      ⊢ WP c (agDrain c h) Q := by
  unfold crdG posG finG agDrain
  simp only [bigSep_three, wp_seq]
  iintro ⟨#Hctx, HO, ⟨⟨C0, C1, C2⟩, ⟨P0, P1, P2⟩⟩, Hk⟩
  iapply (agDone_spec c h 1)
  isplitr; · iexact Hctx
  isplitl [HO]; · iexact HO
  isplitl [C1]; · iexact C1
  isplitl [P1]; · iexact P1
  iintro ⟨HO, P1, B1⟩
  iapply (agDone_spec c h 0)
  isplitr; · iexact Hctx
  isplitl [HO]; · iexact HO
  isplitl [C0]; · iexact C0
  isplitl [P0]; · iexact P0
  iintro ⟨HO, P0, B0⟩
  iapply (agDone_spec c h 2)
  isplitr; · iexact Hctx
  isplitl [HO]; · iexact HO
  isplitl [C2]; · iexact C2
  isplitl [P2]; · iexact P2
  iintro ⟨HO, P2, B2⟩
  iapply Hk
  isplitl [HO]; · iexact HO
  isplitl [P0 P1 P2]
  · isplitl [P0]; · iexact P0
    isplitl [P1] <;> iassumption
  iapply (ownsSat_thirds (c : Thread nD τ) (blk c h) fullShare (fun _ => True)).2
  isplitl [B0]; · iexact B0
  isplitl [B1]; · iexact B1
  iexact B2

/-- What the third stage of group `h` takes and leaves. -/
def colA (c : Dev nD) (h : Fin 4) : sProp 𝕄 :=
  iprop(crdG c 3 h ∗ posG c 3 h ∗ bigSep Finset.univ fun j : Fin 3 => any c (oblk (tgt c j) h))
variable (X Y) in
def colB (c : Dev nD) (h : Fin 4) : sProp 𝕄 :=
  iprop(finG c 3 h ∗ (bigSep Finset.univ fun j : Fin 3 => any c (slot gM h j))
    ∗ bigSep Finset.univ fun j : Fin 3 => owns (c : Thread nD τ) (oblk (tgt c j) h) fullShare (wide (totalB X Y (tgt c j) h)))

theorem collect_spec (c : Dev nD) (h : Fin 4) {Q : PUnit → sProp 𝕄} :
    iprop(ctx X Y K ∗ Ow c [] ∗ colA c h ∗ ((Ow c [] ∗ colB X Y c h) -∗ Q ⟨⟩)) ⊢ WP c (collect c h) Q := by
  unfold colA colB crdG posG finG collect
  simp only [bigSep_three, wp_seq]
  iintro ⟨#Hctx, HO, ⟨⟨C0, C1, C2⟩, ⟨P0, P1, P2⟩, ⟨B0, B1, B2⟩⟩, Hk⟩
  iapply (agRecv_spec c h 0)
  isplitr; · iexact Hctx
  isplitl [HO]; · iexact HO
  isplitl [C0]; · iexact C0
  isplitl [P0]; · iexact P0
  iintro ⟨HO, P0, S0⟩
  iapply (gather_spec c h 0 (totalB X Y (tgt c 2) h))
  isplitl [S0]; · iexact S0
  isplitl [B2]; · iexact B2
  iintro ⟨S0, B2⟩
  iapply (agRecv_spec c h 2)
  isplitr; · iexact Hctx
  isplitl [HO]; · iexact HO
  isplitl [C2]; · iexact C2
  isplitl [P2]; · iexact P2
  iintro ⟨HO, P2, S2⟩
  iapply (gather_spec c h 2 (totalB X Y (tgt c 0) h))
  isplitl [S2]; · iexact S2
  isplitl [B0]; · iexact B0
  iintro ⟨S2, B0⟩
  iapply (agRecv_spec c h 1)
  isplitr; · iexact Hctx
  isplitl [HO]; · iexact HO
  isplitl [C1]; · iexact C1
  isplitl [P1]; · iexact P1
  iintro ⟨HO, P1, S1⟩
  iapply (gather_spec c h 1 (totalB X Y (tgt c 1) h))
  isplitl [S1]; · iexact S1
  isplitl [B1]; · iexact B1
  iintro ⟨S1, B1⟩
  iapply Hk
  isplitl [HO]; · iexact HO
  isplitl [P0 P1 P2]
  · isplitl [P0]; · iexact P0
    isplitl [P1] <;> iassumption
  isplitl [S0 S1 S2]
  · isplitl [S0]; · iexact S0
    isplitl [S1] <;> iassumption
  isplitl [B0]; · iexact B0
  isplitl [B1]; · iexact B1
  iexact B2

variable (X Y) in
/-- What the second stage of group `h` takes and leaves. -/
def midA (c : Dev nD) (h : Fin 4) : sProp 𝕄 :=
  iprop(crdG c 1 h ∗ posG c 1 h ∗ owns (c : Thread nD τ) (blk c h) fullShare (pblk X Y c c h)
    ∗ (bigSep Finset.univ fun j : Fin 3 => any (tgt c j) (slot gM h j)) ∗ tokS c 2 h ∗ tokR c 3 h ∗ any c (oblk c h))
variable (X Y) in
def midB (c : Dev nD) (h : Fin 4) : sProp 𝕄 :=
  iprop(finG c 1 h ∗ (bigSep Finset.univ fun j : Fin 3 => any c (slot rM h j)) ∗ crdG c 2 h ∗ owns (c : Thread nD τ) (oblk c h) fullShare (total X Y c h))

theorem middle_spec (c : Dev nD) (h : Fin 4) {l : List It} (hl : ∀ x ∈ agIts h ++ l, 2 < x.lev) {Q : PUnit → sProp 𝕄} :
    iprop(ctx X Y K ∗ Ow c (agIts h ++ l) ∗ midA X Y c h ∗ ((Ow c l ∗ midB X Y c h) -∗ Q ⟨⟩)) ⊢ WP c (middle c h) Q := by
  unfold midA midB crdG posG finG tokS tokR middle
  simp only [bigSep_three, wp_seq]
  iintro ⟨#Hctx, HO, ⟨⟨C0, C1, C2⟩, ⟨P0, P1, P2⟩, Hp, ⟨S0, S1, S2⟩, ⟨T0, T1, T2⟩, ⟨R0, R1, R2⟩, Hb⟩, Hk⟩
  iapply (rsRecv_spec c h 0 hl)
  isplitr; · iexact Hctx
  isplitl [HO]; · iexact HO
  isplitl [C0]; · iexact C0
  isplitl [P0]; · iexact P0
  iintro ⟨HO, P0, L0⟩
  iapply (rsRecv_spec c h 2 hl)
  isplitr; · iexact Hctx
  isplitl [HO]; · iexact HO
  isplitl [C2]; · iexact C2
  isplitl [P2]; · iexact P2
  iintro ⟨HO, P2, L2⟩
  iapply (rsRecv_spec c h 1 hl)
  isplitr; · iexact Hctx
  isplitl [HO]; · iexact HO
  isplitl [C1]; · iexact C1
  isplitl [P1]; · iexact P1
  iintro ⟨HO, P1, L1⟩
  iapply (reduce_spec c h (pblk X Y c c h) (pblk X Y (tgt c 2) c h) (pblk X Y (tgt c 1) c h) (pblk X Y (tgt c 0) c h) (total X Y c h) rfl (totalB X Y c h) rfl)
  isplitl [Hp]; · iexact Hp
  isplitl [L0]; · iexact L0
  isplitl [L1]; · iexact L1
  isplitl [L2]; · iexact L2
  rw [bigSep_three]
  iintro ⟨Hp, HL⟩
  ihave Hp := (show (owns (c : Thread nD τ) (blk c h) fullShare (totalB X Y c h) : sProp 𝕄)
      ⊢ iprop(owns (c : Thread nD τ) (blk c h) (third 0) (totalB X Y c h) ∗ owns (c : Thread nD τ) (blk c h) (third 1) (totalB X Y c h) ∗ owns (c : Thread nD τ) (blk c h) (third 2) (totalB X Y c h)) from
    (owns_halves (c : Thread nD τ) (blk c h) fullShare _).1.trans (sep_mono .rfl (owns_halves (c : Thread nD τ) (blk c h) fullShare.right _).1)) $$ Hp
  icases Hp with ⟨Q0, Q1, Q2⟩
  iapply (agSend_spec c h 1)
  isplitr; · iexact Hctx
  isplitl [HO]; · iexact HO
  isplitl [Q1]; · iexact Q1
  isplitl [S1]; · iexact S1
  isplitl [T1]; · iexact T1
  isplitl [R1]; · iexact R1
  iintro ⟨HO, C1⟩
  iapply (agSend_spec c h 0)
  isplitr; · iexact Hctx
  isplitl [HO]; · iexact HO
  isplitl [Q0]; · iexact Q0
  isplitl [S0]; · iexact S0
  isplitl [T0]; · iexact T0
  isplitl [R0]; · iexact R0
  iintro ⟨HO, C0⟩
  iapply (agSend_spec c h 2)
  isplitr; · iexact Hctx
  isplitl [HO]; · iexact HO
  isplitl [Q2]; · iexact Q2
  isplitl [S2]; · iexact S2
  isplitl [T2]; · iexact T2
  isplitl [R2]; · iexact R2
  iintro ⟨HO, C2⟩
  iapply (keep_spec c h)
  isplitl [Hb]; · iexact Hb
  iintro Hb
  iapply Hk
  isplitl [HO]; · iexact HO
  isplitl [P0 P1 P2]
  · isplitl [P0]; · iexact P0
    isplitl [P1] <;> iassumption
  isplitl [HL]; · iexact HL
  isplitl [C0 C1 C2]
  · isplitl [C0]; · iexact C0
    isplitl [C1] <;> iassumption
  iexact Hb

end Cert.KProof

end
-- ==== Proof.Body.lean ====
/-
# The body whole

The buffers cut into the blocks and slots that the pieces take, the pieces one after another, and the buffers put
together again, the result at the contents that the blocks make up.
-/
module

public import proofs.«01_k».proof.Proof.Phases

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S512x256 .f32) (Y : Dev nD → Vec F S256x512 .f32) (K : Dev nD × Option T → ℕ)

/-! ## Buffers and their parts -/

/-- The sixteen blocks, by column group and then row chunk; the twelve slots, by group and then distance. -/
abbrev blkF (t : Fin 4 × Fin 4) : Rect S512x512 := blkR t.2 t.1
abbrev slotF (t : Fin 4 × Fin 3) : Rect S4x3x128x128 := slotR t.1 t.2

theorem blk_disjoint (t t' : Fin 4 × Fin 4) (h : t ≠ t') : Disjoint (blkF t).set (blkF t').set := by
  by_cases h2 : t.2 = t'.2
  · have : t.1.val ≠ t'.1.val := fun e => h (Prod.ext (Fin.ext e) h2)
    refine Rect.unit_disjoint 1 ?_
    show 128 * t.1.val + 128 ≤ 128 * t'.1.val ∨ 128 * t'.1.val + 128 ≤ 128 * t.1.val
    omega
  · have : t.2.val ≠ t'.2.val := fun e => h2 (Fin.ext e)
    refine Rect.unit_disjoint 0 ?_
    show 128 * t.2.val + 128 ≤ 128 * t'.2.val ∨ 128 * t'.2.val + 128 ≤ 128 * t.2.val
    omega
theorem blk_cover : (Finset.univ : Finset (Fin 4 × Fin 4)).biUnion (fun t => (blkF t).set) = Finset.univ := by
  refine Finset.eq_univ_of_forall fun i => Finset.mem_biUnion.mpr ?_
  have h0 : (i 0).val < 512 := (i 0).isLt
  have h1 : (i 1).val < 512 := (i 1).isLt
  refine ⟨(⟨(i 1).val / 128, by omega⟩, ⟨(i 0).val / 128, by omega⟩), Finset.mem_univ _, Rect.mem_set_unit.mpr fun a => ?_⟩
  fin_cases a
  · show 128 * ((i 0).val / 128) ≤ (i 0).val ∧ (i 0).val < 128 * ((i 0).val / 128) + 128
    omega
  · show 128 * ((i 1).val / 128) ≤ (i 1).val ∧ (i 1).val < 128 * ((i 1).val / 128) + 128
    omega

theorem slot_disjoint (t t' : Fin 4 × Fin 3) (h : t ≠ t') : Disjoint (slotF t).set (slotF t').set := by
  by_cases h2 : t.2 = t'.2
  · have : t.1.val ≠ t'.1.val := fun e => h (Prod.ext (Fin.ext e) h2)
    refine Rect.unit_disjoint 0 ?_
    show t.1.val + 1 ≤ t'.1.val ∨ t'.1.val + 1 ≤ t.1.val
    omega
  · have : t.2.val ≠ t'.2.val := fun e => h2 (Fin.ext e)
    refine Rect.unit_disjoint 1 ?_
    show t.2.val + 1 ≤ t'.2.val ∨ t'.2.val + 1 ≤ t.2.val
    omega
theorem slot_cover : (Finset.univ : Finset (Fin 4 × Fin 3)).biUnion (fun t => (slotF t).set) = Finset.univ := by
  refine Finset.eq_univ_of_forall fun i => Finset.mem_biUnion.mpr ?_
  refine ⟨((i 0 : Fin 4), (i 1 : Fin 3)), Finset.mem_univ _, Rect.mem_set_unit.mpr fun a => ?_⟩
  have h2 : (i 2).val < 128 := (i 2).isLt
  have h3 : (i 3).val < 128 := (i 3).isLt
  fin_cases a
  · show (i 0).val ≤ (i 0).val ∧ (i 0).val < (i 0).val + 1
    omega
  · show (i 1).val ≤ (i 1).val ∧ (i 1).val < (i 1).val + 1
    omega
  · show 0 ≤ (i 2).val ∧ (i 2).val < 0 + 128
    omega
  · show 0 ≤ (i 3).val ∧ (i 3).val < 0 + 128
    omega

section Blocks
variable {e : EltTy} (b : Memref sig .tc .vmem S512x512 e) (c : Dev nD)

theorem blocks_split :
    (any c b : sProp 𝕄) ⊢ iprop((bigSep Finset.univ fun h : Fin 4 => any c (b.slice (blkR c h) (fun _ => rfl)))
      ∗ bigSep Finset.univ fun h : Fin 4 => bigSep Finset.univ fun j : Fin 3 => any c (b.slice (blkR (tgt c j) h) (fun _ => rfl))) := by
  refine (ownsSat_mono (Ψ := fun _ => ∀ t : Fin 4 × Fin 4, True) (c : Thread nD τ) b fullShare fun _ _ _ => trivial).trans ?_
  refine (ownsSat_rects (c : Thread nD τ) b fullShare blkF (fun _ _ => rfl) blk_disjoint blk_cover (fun _ _ => True)).trans ?_
  rw [bigSep_univ_prod, ← bigSep_sep']
  exact bigSep_mono fun h _ => Entails.of_eq (bigSep_ring c fun r => any c (b.slice (blkR r h) (fun _ => rfl)))
theorem blocks_join :
    (iprop((bigSep Finset.univ fun h : Fin 4 => any c (b.slice (blkR c h) (fun _ => rfl)))
      ∗ bigSep Finset.univ fun h : Fin 4 => bigSep Finset.univ fun j : Fin 3 => any c (b.slice (blkR (tgt c j) h) (fun _ => rfl))) : sProp 𝕄) ⊢ any c b := by
  refine BIBase.Entails.trans ?_ (ownsSat_mono (Φ := fun X => ∀ t : Fin 4 × Fin 4, True) (c : Thread nD τ) b fullShare fun _ _ => trivial)
  refine BIBase.Entails.trans ?_ (ownsSat_of_rects (c : Thread nD τ) b fullShare blkF (fun _ _ => rfl) blk_disjoint blk_cover (fun _ _ => True))
  rw [bigSep_univ_prod, ← bigSep_sep']
  exact bigSep_mono fun h _ => Entails.of_eq (bigSep_ring c fun r => any c (b.slice (blkR r h) (fun _ => rfl))).symm

theorem blocks_owns (Zs : (t : Fin 4 × Fin 4) → Blk F e) :
    (iprop((bigSep Finset.univ fun h : Fin 4 => owns (c : Thread nD τ) (b.slice (blkR c h) (fun _ => rfl)) fullShare (Zs (h, c)))
      ∗ bigSep Finset.univ fun h : Fin 4 => bigSep Finset.univ fun j : Fin 3 => owns (c : Thread nD τ) (b.slice (blkR (tgt c j) h) (fun _ => rfl)) fullShare (Zs (h, tgt c j))) : sProp 𝕄)
      ⊢ owns (c : Thread nD τ) b fullShare (Rect.glue blkF blk_cover Zs) := by
  refine BIBase.Entails.trans ?_ (owns_of_rects (c : Thread nD τ) b fullShare blkF (fun _ _ => rfl) blk_disjoint blk_cover (Rect.glue blkF blk_cover Zs))
  rw [bigSep_univ_prod, ← bigSep_sep']
  refine bigSep_mono fun h _ => ?_
  have hg (r : Fin 4) : (fun y => Rect.glue blkF blk_cover Zs ((blkF (h, r)).emb y)) = Zs (h, r) :=
    funext fun y => Rect.glue_emb blkF blk_cover blk_disjoint Zs (h, r) y
  simp only [hg]
  exact Entails.of_eq (bigSep_ring c fun r => owns (c : Thread nD τ) (b.slice (blkR r h) (fun _ => rfl)) fullShare (Zs (h, r))).symm

end Blocks

theorem any_slot (c : Dev nD) (b : Memref sig .tc .vmem S4x3x128x128 .bf16) (h : Fin 4) (j : Fin 3) :
    (any c (slot b h j) : sProp 𝕄) = any c (b.slice (slotR h j) (fun _ => rfl)) := by
  unfold any ownsSat
  rw [slot_set]

theorem slots_split (c : Dev nD) (b : Memref sig .tc .vmem S4x3x128x128 .bf16) :
    (any c b : sProp 𝕄) ⊢ bigSep Finset.univ fun h : Fin 4 => bigSep Finset.univ fun j : Fin 3 => any c (slot b h j) := by
  simp only [any_slot]
  refine (ownsSat_mono (Ψ := fun _ => ∀ t : Fin 4 × Fin 3, True) (c : Thread nD τ) b fullShare fun _ _ _ => trivial).trans ?_
  refine (ownsSat_rects (c : Thread nD τ) b fullShare slotF (fun _ _ => rfl) slot_disjoint slot_cover (fun _ _ => True)).trans ?_
  rw [bigSep_univ_prod]
theorem slots_join (c : Dev nD) (b : Memref sig .tc .vmem S4x3x128x128 .bf16) :
    (bigSep Finset.univ fun h : Fin 4 => bigSep Finset.univ fun j : Fin 3 => any c (slot b h j) : sProp 𝕄) ⊢ any c b := by
  simp only [any_slot]
  refine BIBase.Entails.trans ?_ (ownsSat_mono (Φ := fun X => ∀ t : Fin 4 × Fin 3, True) (c : Thread nD τ) b fullShare fun _ _ => trivial)
  refine BIBase.Entails.trans ?_ (ownsSat_of_rects (c : Thread nD τ) b fullShare slotF (fun _ _ => rfl) slot_disjoint slot_cover (fun _ _ => True))
  rw [bigSep_univ_prod]

/-- What a device announces to the others; what the others announced to it, by group. -/
theorem slots_give (c : Dev nD) : (iprop(any c rM ∗ any c gM) : sProp 𝕄) ⊢ bigSep Finset.univ fun i : Fin 3 => slots c i := by
  unfold slots
  rw [bigSep_univ_comm]
  simp only [bigSep_sep']
  exact BIClass.sep_mono (slots_split c rM) (slots_split c gM)
theorem slots_take (c : Dev nD) : (bigSep Finset.univ fun i : Fin 3 => slots (tgt c i) i : sProp 𝕄)
    ⊢ iprop((bigSep Finset.univ fun h : Fin 4 => bigSep Finset.univ fun j : Fin 3 => any (tgt c j) (slot rM h j))
      ∗ bigSep Finset.univ fun h : Fin 4 => bigSep Finset.univ fun j : Fin 3 => any (tgt c j) (slot gM h j)) := by
  unfold slots
  rw [bigSep_univ_comm]
  simp only [bigSep_sep']
  exact .rfl

/-- The block of the result at row chunk `r`, column group `h`, on device `c`; the result. -/
def outblk (c r h : Fin 4) : Blk F .f32 := if r = c then total X Y c h else wide (totalB X Y r h)
def outAt (c : Dev nD) : S512x512.Idx → Elt F .f32 := Rect.glue blkF blk_cover fun t => outblk X Y c t.2 t.1

theorem outblk_own (c h : Fin 4) : outblk X Y c c h = total X Y c h := if_pos rfl
theorem outblk_far (c : Dev nD) (j : Fin 3) (h : Fin 4) : outblk X Y c (tgt c j) h = wide (totalB X Y (tgt c j) h) :=
  if_neg (by revert c j; decide)

theorem out_join (c : Dev nD) :
    (iprop((bigSep Finset.univ fun h : Fin 4 => owns (c : Thread nD τ) (oblk c h) fullShare (total X Y c h))
      ∗ bigSep Finset.univ fun h : Fin 4 => bigSep Finset.univ fun j : Fin 3 => owns (c : Thread nD τ) (oblk (tgt c j) h) fullShare (wide (totalB X Y (tgt c j) h))) : sProp 𝕄)
      ⊢ owns (c : Thread nD τ) oM fullShare (outAt X Y c) := by
  refine BIBase.Entails.trans (Entails.of_eq ?_) (blocks_owns oM c fun t => outblk X Y c t.2 t.1)
  simp only [outblk_own, outblk_far]

/-! ## Four groups in a row -/

variable {X Y K}

theorem four_spec (c : Dev nD) (p : Fin 4 → P F PUnit) (S : Fin 5 → sProp 𝕄) (A B : Fin 4 → sProp 𝕄)
    (hp : ∀ (h : Fin 4) (Q : PUnit → sProp 𝕄), iprop(ctx X Y K ∗ S h.castSucc ∗ A h ∗ ((S h.succ ∗ B h) -∗ Q ⟨⟩)) ⊢ WP c (p h) Q) {Q : PUnit → sProp 𝕄} :
    iprop(ctx X Y K ∗ S 0 ∗ bigSep Finset.univ A ∗ ((S 4 ∗ bigSep Finset.univ B) -∗ Q ⟨⟩))
      ⊢ WP c (p 0) fun _ => WP c (p 1) fun _ => WP c (p 2) fun _ => WP c (p 3) Q := by
  rw [bigSep_four, bigSep_four]
  have h0 : ∀ Q : PUnit → sProp 𝕄, iprop(ctx X Y K ∗ S 0 ∗ A 0 ∗ ((S 1 ∗ B 0) -∗ Q ⟨⟩)) ⊢ WP c (p 0) Q := hp 0
  have h1 : ∀ Q : PUnit → sProp 𝕄, iprop(ctx X Y K ∗ S 1 ∗ A 1 ∗ ((S 2 ∗ B 1) -∗ Q ⟨⟩)) ⊢ WP c (p 1) Q := hp 1
  have h2 : ∀ Q : PUnit → sProp 𝕄, iprop(ctx X Y K ∗ S 2 ∗ A 2 ∗ ((S 3 ∗ B 2) -∗ Q ⟨⟩)) ⊢ WP c (p 2) Q := hp 2
  have h3 : ∀ Q : PUnit → sProp 𝕄, iprop(ctx X Y K ∗ S 3 ∗ A 3 ∗ ((S 4 ∗ B 3) -∗ Q ⟨⟩)) ⊢ WP c (p 3) Q := hp 3
  iintro ⟨#Hctx, HS, ⟨A0, A1, A2, A3⟩, Hk⟩
  iapply (h0 _)
  isplitr; · iexact Hctx
  isplitl [HS]; · iexact HS
  isplitl [A0]; · iexact A0
  iintro ⟨HS, B0⟩
  iapply (h1 _)
  isplitr; · iexact Hctx
  isplitl [HS]; · iexact HS
  isplitl [A1]; · iexact A1
  iintro ⟨HS, B1⟩
  iapply (h2 _)
  isplitr; · iexact Hctx
  isplitl [HS]; · iexact HS
  isplitl [A2]; · iexact A2
  iintro ⟨HS, B2⟩
  iapply (h3 _)
  isplitr; · iexact Hctx
  isplitl [HS]; · iexact HS
  isplitl [A3]; · iexact A3
  iintro ⟨HS, B3⟩
  iapply Hk
  isplitl [HS]; · iexact HS
  isplitl [B0]; · iexact B0
  isplitl [B1]; · iexact B1
  isplitl [B2]; · iexact B2
  iexact B3

abbrev allG (Φ : Fin 4 → sProp 𝕄) : sProp 𝕄 := bigSep Finset.univ Φ

theorem allG_four (Φ : Fin 4 → sProp 𝕄) : allG Φ = iprop(Φ 0 ∗ Φ 1 ∗ Φ 2 ∗ Φ 3) := bigSep_four Φ

/-- The transfers of the second half still to start before group `i`'s. -/
def agFrom : Fin 5 → List It := ![itsAg, agIts 1 ++ (agIts 2 ++ agIts 3), agIts 2 ++ agIts 3, agIts 3, []]
theorem agFrom_cut : ∀ h : Fin 4, agFrom h.castSucc = agIts h ++ agFrom h.succ := by decide
theorem agFrom_lev : ∀ h : Fin 4, ∀ x ∈ agIts h ++ agFrom h.succ, 2 < x.lev := by decide

theorem middles_spec (c : Dev nD) {Q : PUnit → sProp 𝕄} :
    iprop(ctx X Y K ∗ Ow c itsAg ∗ allG (midA X Y c) ∗ ((Ow c [] ∗ allG (midB X Y c)) -∗ Q ⟨⟩))
      ⊢ WP c (middle c 0) fun _ => WP c (middle c 1) fun _ => WP c (middle c 2) fun _ => WP c (middle c 3) Q :=
  four_spec c (middle c) (fun i => Ow c (agFrom i)) (midA X Y c) (midB X Y c) (fun h Q => by
    rw [agFrom_cut]; exact middle_spec c h (agFrom_lev h))
theorem collects_spec (c : Dev nD) {Q : PUnit → sProp 𝕄} :
    iprop(ctx X Y K ∗ Ow c [] ∗ allG (colA (F := F) c) ∗ ((Ow c [] ∗ allG (colB X Y c)) -∗ Q ⟨⟩))
      ⊢ WP c (collect c 0) fun _ => WP c (collect c 1) fun _ => WP c (collect c 2) fun _ => WP c (collect c 3) Q :=
  four_spec c (collect c) (fun _ => Ow c []) (colA c) (colB X Y c) (fun h Q => collect_spec c h)
theorem rsDrains_spec (c : Dev nD) {Q : PUnit → sProp 𝕄} :
    iprop(ctx X Y K ∗ Ow c [] ∗ allG (fun h => iprop(crdG (F := F) c 0 h ∗ posG c 0 h))
        ∗ ((Ow c [] ∗ allG fun h => iprop(finG c 0 h ∗ bigSep Finset.univ fun j : Fin 3 => any c (blk (tgt c j) h))) -∗ Q ⟨⟩))
      ⊢ WP c (rsDrain c 0) fun _ => WP c (rsDrain c 1) fun _ => WP c (rsDrain c 2) fun _ => WP c (rsDrain c 3) Q :=
  four_spec c (rsDrain c) (fun _ => Ow c []) _ _ (fun h Q => rsDrain_spec c h)
theorem agDrains_spec (c : Dev nD) {Q : PUnit → sProp 𝕄} :
    iprop(ctx X Y K ∗ Ow c [] ∗ allG (fun h => iprop(crdG (F := F) c 2 h ∗ posG c 2 h))
        ∗ ((Ow c [] ∗ allG fun h => iprop(finG c 2 h ∗ any c (blk c h))) -∗ Q ⟨⟩))
      ⊢ WP c (agDrain c 0) fun _ => WP c (agDrain c 1) fun _ => WP c (agDrain c 2) fun _ => WP c (agDrain c 3) Q :=
  four_spec c (agDrain c) (fun _ => Ow c []) _ _ (fun h Q => agDrain_spec c h)

/-- The same by kind. -/
theorem midA_eq (c : Dev nD) : allG (midA X Y c)
    = iprop(allG (fun h => crdG c 1 h) ∗ allG (fun h => posG c 1 h) ∗ allG (fun h => owns (c : Thread nD τ) (blk c h) fullShare (pblk X Y c c h))
      ∗ allG (fun h => bigSep Finset.univ fun j : Fin 3 => any (tgt c j) (slot gM h j)) ∗ allG (fun h => tokS c 2 h) ∗ allG (fun h => tokR c 3 h) ∗ allG (fun h => any c (oblk c h))) := by
  unfold allG midA; simp only [bigSep_sep']
theorem midB_eq (c : Dev nD) : allG (midB X Y c)
    = iprop(allG (fun h => finG c 1 h) ∗ allG (fun h => bigSep Finset.univ fun j : Fin 3 => any c (slot rM h j)) ∗ allG (fun h => crdG c 2 h)
      ∗ allG (fun h => owns (c : Thread nD τ) (oblk c h) fullShare (total X Y c h))) := by
  unfold allG midB; simp only [bigSep_sep']
theorem colA_eq (c : Dev nD) : allG (colA (F := F) c)
    = iprop(allG (fun h => crdG c 3 h) ∗ allG (fun h => posG c 3 h) ∗ allG (fun h => bigSep Finset.univ fun j : Fin 3 => any c (oblk (tgt c j) h))) := by
  unfold allG colA; simp only [bigSep_sep']
theorem colB_eq (c : Dev nD) : allG (colB X Y c)
    = iprop(allG (fun h => finG c 3 h) ∗ allG (fun h => bigSep Finset.univ fun j : Fin 3 => any c (slot gM h j))
      ∗ allG (fun h => bigSep Finset.univ fun j : Fin 3 => owns (c : Thread nD τ) (oblk (tgt c j) h) fullShare (wide (totalB X Y (tgt c j) h)))) := by
  unfold allG colB; simp only [bigSep_sep']

/-- A group's partial product and its three transfers. -/
theorem group_spec (c : Dev nD) (h : Fin 4) {l : List It} {Q : PUnit → sProp 𝕄} :
    iprop(ctx X Y K ∗ Ow c (rsIts h ++ l) ∗ ops X Y c ∗ any c (blk c h) ∗ (bigSep Finset.univ fun j : Fin 3 => any c (blk (tgt c j) h))
        ∗ (bigSep Finset.univ fun j : Fin 3 => any (tgt c j) (slot rM h j)) ∗ tokS c 0 h ∗ tokR c 1 h
        ∗ ((Ow c l ∗ ops X Y c ∗ crdG c 0 h ∗ owns (c : Thread nD τ) (blk c h) fullShare (pblk X Y c c h)) -∗ Q ⟨⟩))
      ⊢ WP c (half h) fun _ => WP c (sends c h) Q := by
  iintro ⟨#Hctx, HO, Hops, B, Bf, S, T, R, Hk⟩
  iapply (half_spec X Y c h)
  isplitl [Hops]; · iexact Hops
  isplitl [B]; · iexact B
  isplitl [Bf]; · iexact Bf
  iintro ⟨Hops, B, Bf⟩
  iapply (sends_spec c h)
  isplitr; · iexact Hctx
  isplitl [HO]; · iexact HO
  isplitl [Bf]; · iexact Bf
  isplitl [S]; · iexact S
  isplitl [T]; · iexact T
  isplitl [R]; · iexact R
  iintro ⟨HO, C⟩
  iapply Hk
  isplitl [HO]; · iexact HO
  isplitl [Hops]; · iexact Hops
  isplitl [C]; · iexact C
  iexact B

/-! ## The body -/

/-- What the launch gives a device for the body, besides its buffers: the waits that the others' signals and transfers will
    grant it; its place in its own cells' rounds; the rights to pay. -/
def creds (c : Dev nD) : sProp 𝕄 := iprop(cred (tallyAt (barCell c) () 3) ∗ allG (fun h => crdG c 1 h) ∗ allG (fun h => crdG c 3 h))
def places (c : Dev nD) : sProp 𝕄 := iprop(atPos ER (barCell c) 0 ∅ 0 ∗ bigSep Finset.univ fun g : Fin 4 => allG (fun h => posG c g h))
def ends (c : Dev nD) : sProp 𝕄 := iprop(atPos ER (barCell c) 1 ∅ 0 ∗ bigSep Finset.univ fun g : Fin 4 => allG (fun h => finG c g h))
def rights (c : Dev nD) : sProp 𝕄 :=
  iprop((bigSep Finset.univ fun j : Fin 3 => tok (barCell (tgt c j)) j.rev)
    ∗ allG (fun h => tokS c 0 h) ∗ allG (fun h => tokR c 1 h) ∗ allG (fun h => tokS c 2 h) ∗ allG (fun h => tokR c 3 h))

variable (X Y) in
/-- The staged operands; the five buffers of the body's own. -/
def staged (c : Dev nD) : sProp 𝕄 := iprop(owns (c : Thread nD τ) aM fullShare (X c) ∗ owns (c : Thread nD τ) bM fullShare (Y c))
def scratch (c : Dev nD) : sProp 𝕄 := iprop(any c pM ∗ any c rM ∗ any c gM ∗ any c xM ∗ any c yM)

theorem after_spec (c : Dev nD) {Q : PUnit → sProp 𝕄} :
    iprop(ctx X Y K ∗ Ow c its ∗ creds c ∗ places c ∗ rights c ∗ staged X Y c ∗ any c oM ∗ scratch c
        ∗ ((Ow c [] ∗ ends c ∗ staged X Y c ∗ owns (c : Thread nD τ) oM fullShare (outAt X Y c) ∗ scratch c) -∗ Q ⟨⟩))
      ⊢ WP c (after c) Q := by
  unfold creds places ends rights staged scratch
  rw [bigSep_three (fun j => tok (barCell (tgt c j)) j.rev), bigSep_four (fun g => allG (fun h => posG c g h)), bigSep_four (fun g => allG (fun h => finG c g h)),
    allG_four (fun h => tokS c 0 h), allG_four (fun h => tokR c 1 h)]
  iintro ⟨#Hctx, HO, ⟨CB, C1, C3⟩, ⟨PB, P0, P1, P2, P3⟩, ⟨⟨TB0, TB1, TB2⟩, ⟨T0, T1, T2, T3⟩, ⟨R0, R1, R2, R3⟩, T2s, R3s⟩, ⟨Ha, Hb⟩, Ho, ⟨Hp, Hr, Hg, Hx, Hy⟩, Hk⟩
  ihave Ho := (blocks_split oM c) $$ Ho
  icases Ho with ⟨Oown, Ofar⟩
  ihave Hp := ((blocks_split pM c).trans (Entails.of_eq (congrArg₂ (fun a b => iprop(a ∗ b)) (bigSep_four _) (bigSep_four _)))) $$ Hp
  icases Hp with ⟨⟨B0, B1, B2, B3⟩, ⟨F0, F1, F2, F3⟩⟩
  ihave Hs := ((slots_give c).trans (Entails.of_eq (bigSep_three _))) $$ [Hr Hg]
  · isplitl [Hr] <;> iassumption
  icases Hs with ⟨S0, S1, S2⟩
  unfold after
  simp only [wp_seq]
  iapply (signal_spec c _ 0 (Fin.ext (by revert c; decide)))
  isplitr; · iexact Hctx
  isplitl [HO]; · iexact HO
  isplitl [S2]; · iexact S2
  isplitl [TB0]; · iexact TB0
  iintro HO
  iapply (signal_spec c _ 1 (Fin.ext (by revert c; decide)))
  isplitr; · iexact Hctx
  isplitl [HO]; · iexact HO
  isplitl [S1]; · iexact S1
  isplitl [TB1]; · iexact TB1
  iintro HO
  iapply (signal_spec c _ 2 (Fin.ext (by revert c; decide)))
  isplitr; · iexact Hctx
  isplitl [HO]; · iexact HO
  isplitl [S0]; · iexact S0
  isplitl [TB2]; · iexact TB2
  iintro HO
  iapply (narrow_spec X Y c)
  isplitl [Ha]; · iexact Ha
  isplitl [Hb]; · iexact Hb
  isplitl [Hx]; · iexact Hx
  isplitl [Hy]; · iexact Hy
  iintro ⟨Ha, Hb, Hops⟩
  iapply (half_spec X Y c 0)
  isplitl [Hops]; · iexact Hops
  isplitl [B0]; · iexact B0
  isplitl [F0]; · iexact F0
  iintro ⟨Hops, B0, F0⟩
  iapply (barrier_spec c (l := itsRs) (by decide))
  isplitr; · iexact Hctx
  isplitl [HO]; · iexact HO
  isplitl [CB]; · iexact CB
  isplitl [PB]; · iexact PB
  iintro ⟨HO, EB, Hs⟩
  ihave Hs := (slots_take c) $$ Hs
  icases Hs with ⟨SR, SG⟩
  ihave SR := (Entails.of_eq (bigSep_four _)) $$ SR
  icases SR with ⟨S0, S1, S2, S3⟩
  iapply (sends_spec c 0)
  isplitr; · iexact Hctx
  isplitl [HO]; · iexact HO
  isplitl [F0]; · iexact F0
  isplitl [S0]; · iexact S0
  isplitl [T0]; · iexact T0
  isplitl [R0]; · iexact R0
  iintro ⟨HO, C00⟩
  iapply (group_spec c 1)
  isplitr; · iexact Hctx
  isplitl [HO]; · iexact HO
  isplitl [Hops]; · iexact Hops
  isplitl [B1]; · iexact B1
  isplitl [F1]; · iexact F1
  isplitl [S1]; · iexact S1
  isplitl [T1]; · iexact T1
  isplitl [R1]; · iexact R1
  iintro ⟨HO, Hops, C01, B1⟩
  iapply (group_spec c 2)
  isplitr; · iexact Hctx
  isplitl [HO]; · iexact HO
  isplitl [Hops]; · iexact Hops
  isplitl [B2]; · iexact B2
  isplitl [F2]; · iexact F2
  isplitl [S2]; · iexact S2
  isplitl [T2]; · iexact T2
  isplitl [R2]; · iexact R2
  iintro ⟨HO, Hops, C02, B2⟩
  iapply (group_spec c 3)
  isplitr; · iexact Hctx
  isplitl [HO]; · iexact HO
  isplitl [Hops]; · iexact Hops
  isplitl [B3]; · iexact B3
  isplitl [F3]; · iexact F3
  isplitl [S3]; · iexact S3
  isplitl [T3]; · iexact T3
  isplitl [R3]; · iexact R3
  iintro ⟨HO, Hops, C03, B3⟩
  iapply (middles_spec c)
  isplitr; · iexact Hctx
  isplitl [HO]; · iexact HO
  isplitl [C1 P1 B0 B1 B2 B3 SG T2s R3s Oown]
  · iapply (Entails.of_eq (midA_eq c).symm)
    isplitl [C1]; · iexact C1
    isplitl [P1]; · iexact P1
    isplitl [B0 B1 B2 B3]
    · iapply (Entails.of_eq (bigSep_four _).symm)
      isplitl [B0]; · iexact B0
      isplitl [B1]; · iexact B1
      isplitl [B2]; · iexact B2
      iexact B3
    isplitl [SG]; · iexact SG
    isplitl [T2s]; · iexact T2s
    isplitl [R3s]; · iexact R3s
    iexact Oown
  iintro ⟨HO, HB⟩
  ihave HB := (Entails.of_eq (midB_eq c)) $$ HB
  icases HB with ⟨E1, Hr, C2, Oown⟩
  iapply (collects_spec c)
  isplitr; · iexact Hctx
  isplitl [HO]; · iexact HO
  isplitl [C3 P3 Ofar]
  · iapply (Entails.of_eq (colA_eq c).symm)
    isplitl [C3]; · iexact C3
    isplitl [P3]; · iexact P3
    iexact Ofar
  iintro ⟨HO, HB⟩
  ihave HB := (Entails.of_eq (colB_eq c)) $$ HB
  icases HB with ⟨E3, Hg, Ofar⟩
  iapply (rsDrains_spec c)
  isplitr; · iexact Hctx
  isplitl [HO]; · iexact HO
  isplitl [C00 C01 C02 C03 P0]
  · iapply (Entails.of_eq (bigSep_sep' Finset.univ (fun h => crdG c 0 h) (fun h => posG c 0 h)).symm)
    isplitl [C00 C01 C02 C03]
    · iapply (Entails.of_eq (bigSep_four _).symm)
      isplitl [C00]; · iexact C00
      isplitl [C01]; · iexact C01
      isplitl [C02]; · iexact C02
      iexact C03
    iexact P0
  iintro ⟨HO, HB⟩
  ihave HB := (Entails.of_eq (bigSep_sep' Finset.univ (fun h => finG c 0 h) (fun h => bigSep Finset.univ fun j : Fin 3 => any c (blk (tgt c j) h)))) $$ HB
  icases HB with ⟨E0, Bfar⟩
  iapply (agDrains_spec c)
  isplitr; · iexact Hctx
  isplitl [HO]; · iexact HO
  isplitl [C2 P2]
  · iapply (Entails.of_eq (bigSep_sep' Finset.univ (fun h => crdG c 2 h) (fun h => posG c 2 h)).symm)
    isplitl [C2]; · iexact C2
    iexact P2
  iintro ⟨HO, HB⟩
  ihave HB := (Entails.of_eq (bigSep_sep' Finset.univ (fun h => finG c 2 h) (fun h => any c (blk c h)))) $$ HB
  icases HB with ⟨E2, Bown⟩
  iapply Hk
  isplitl [HO]; · iexact HO
  isplitl [EB E0 E1 E2 E3]
  · isplitl [EB]; · iexact EB
    isplitl [E0]; · iexact E0
    isplitl [E1]; · iexact E1
    isplitl [E2]; · iexact E2
    iexact E3
  isplitl [Ha Hb]
  · isplitl [Ha] <;> iassumption
  isplitl [Oown Ofar]
  · iapply (out_join X Y c)
    isplitl [Oown]; · iexact Oown
    iexact Ofar
  isplitl [Bown Bfar]
  · iapply (blocks_join pM c)
    isplitl [Bown]; · iexact Bown
    iexact Bfar
  isplitl [Hr]; · iapply (slots_join c rM); iexact Hr
  isplitl [Hg]; · iapply (slots_join c gM); iexact Hg
  unfold ops
  icases Hops with ⟨Hx, Hy⟩
  isplitl [Hx]; · iapply (ownsSat_intro (c : Thread nD τ) xM fullShare (Φ := fun _ => True) trivial) $$ Hx
  iapply (ownsSat_intro (c : Thread nD τ) yM fullShare (Φ := fun _ => True) trivial) $$ Hy

end Cert.KProof

end
-- ==== Proof.Launch.lean ====
/-
# The launch and the run

What the launch deals each device: its cells' invariants and rounds, the tokens of the duties that it pays, which
go around the ring from the device that owns the cell, and the credit of its barrier and its receive cells. With the
body's specification this gives the run of the whole program, over any float values.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over a device's cells -/

/-- The barrier's cell apart from the others. -/
theorem bigSep_option {A : Type} [Fintype A] [DecidableEq A] (Φ : Option A → sProp 𝕄) :
    bigSep Finset.univ Φ = iprop(Φ none ∗ bigSep Finset.univ fun a => Φ (some a)) := by
  rw [bigSep_univ_at Φ none, show (Finset.univ.erase none : Finset (Option A)) = Finset.univ.map Function.Embedding.some from by
    ext o; cases o <;> simp, bigSep_map]
  rfl
/-- The others by their kind and their column group. -/
theorem bigSep_T (Φ : T → sProp 𝕄) :
    bigSep Finset.univ Φ = bigSep Finset.univ fun g : Fin 4 => allG fun h => bigSep Finset.univ fun j : Fin 3 => Φ (g, h, j) := by
  rw [bigSep_univ_prod]
  exact bigSep_congr fun g _ => by rw [bigSep_univ_prod]
theorem bigSep_keys (Φ : Option T → sProp 𝕄) :
    bigSep Finset.univ Φ = iprop(Φ none ∗ bigSep Finset.univ fun g : Fin 4 => allG fun h => bigSep Finset.univ fun j : Fin 3 => Φ (some (g, h, j))) := by
  rw [bigSep_option, bigSep_T]

/-- Which semaphore a device's cell is on. -/
abbrev sem (o : Option T) : SemLoc sig := match o with
  | none => .reg barS
  | some t => .dma (dq t)
theorem key_eq (c : Dev nD) (o : Option T) : key (c, o) = ((c : Thread nD τ), sem o) := by cases o <;> rfl
theorem sem_injective : Function.Injective sem := by
  intro o o' h
  cases o <;> cases o'
  · rfl
  · cases h
  · cases h
  · exact congrArg some (dq_injective (by injection h))
theorem key_injective : Function.Injective key := by
  rintro ⟨c, o⟩ ⟨c', o'⟩ h
  rw [key_eq, key_eq] at h
  have h1 : c = c' := congrArg (fun g : GSem nD τ sig => g.1.1) h
  have h2 : o = o' := sem_injective (congrArg Prod.snd h)
  rw [h1, h2]

theorem places_eq (c : Dev nD) : (bigSep Finset.univ fun o : Option T => (atPos ER (key (c, o)) 0 ∅ 0 : sProp 𝕄)) = places c := by
  rw [bigSep_keys]; rfl
theorem ends_eq (c : Dev nD) : (bigSep Finset.univ fun o : Option T => (atPos ER (key (c, o)) 1 ∅ 0 : sProp 𝕄)) = ends c := by
  rw [bigSep_keys]; rfl

/-! ## What the body starts from and ends with -/

/-- A device's blocks of the two arguments, as the launch stages them. -/
def argA (c : Dev nD) : Vec F S512x256 .f32 := (win0_0.blk (0 : Fin 1)).view.read (Elt F) ((s₀ m ρ).mem ((c : Thread nD τ).loc main_arg0))
def argB (c : Dev nD) : Vec F S256x512 .f32 := (win0_1.blk (0 : Fin 1)).view.read (Elt F) ((s₀ m ρ).mem ((c : Thread nD τ).loc main_arg1))

/-- The protocol's share of what device `c` starts from. -/
def ghost (c : Dev nD) : sProp 𝕄 := iprop(∃ K, records (argA m ρ) (argB m ρ) K ∗ places c ∗ rights c)
def start (c : Dev nD) : sProp 𝕄 := iprop(ghost m ρ c ∗ creds c ∗ levAts L lv)
def zeros (c : Dev nD) : sProp 𝕄 := bigSep Finset.univ fun o : Option T => semVal (key (c, o)) 0
def before (c : Dev nD) : sProp 𝕄 := iprop(start m ρ c ∗ scratch c)
def done (c : Dev nD) : sProp 𝕄 := iprop(scratch c ∗ zeros c)

/-- The result on device `c`. -/
abbrev result (c : Dev nD) : Vec F S512x512 .f32 := outAt (argA m ρ) (argB m ρ) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argA m ρ c
    | ⟨1, _⟩ => argB m ρ c
    | ⟨2, _⟩ => result m ρ c
  Φ t := match t with
    | ⟨0, _⟩ => before m ρ c
    | ⟨_ + 1, _⟩ => done c
  q _ := fullShare
  owed t := match t with
    | ⟨0, _⟩ => OL c its
    | ⟨_ + 1, _⟩ => 0

/-! ## The body's obligation -/

/-- Of a family, with something persistent at hand for each member. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells, their rounds taken, close at zero. -/
theorem close (X : Dev nD → Vec F S512x256 .f32) (Y : Dev nD → Vec F S256x512 .f32) (K : Dev nD × Option T → ℕ) (c : Dev nD) :
    iprop(ctx X Y K ∗ ends c) ⊢ |={Set.univ}=> zeros (F := F) c := by
  rw [← ends_eq]
  unfold zeros
  refine (bigSep_using (R := ctx X Y K) fun o _ => ?_).trans (bigSep_fupd _ _)
  iintro ⟨#Hctx, Hat⟩
  iapply (Rounds.cell_close ER (Rd X Y) (g := key (c, o)) (κ := K (c, o)) (Set.mem_univ _) (fun h => h) (R := 1) (duties_later X Y (key (c, o))))
  isplitr
  · iapply (inv_at X Y K (c, o)); iexact Hctx
  · iexact Hat

theorem owns_whole_eq (c : Dev nD) (b : Ref sig .tc) (Z : b.ty.Contents (Elt F)) :
    (owns (Ix := Unit) (Name := ℕ) (U := UU) (Lvl := ℕ) (c : Thread nD τ) (Memref.whole b) fullShare Z : sProp 𝕄)
      = iprop(∃ f : Buf (Elt F) (((c : Dev nD) : Thread nD τ).loc b), ⌜f = Z⌝ ∗ (((c : Thread nD τ).loc b) ↦{fullShare} f)) := by
  unfold owns; simp only [Memref.view_whole, View.read_whole, View.set_whole]

/-- A window's staging buffer of device `c` at the contents `Z`. -/
abbrev stg (c : Dev nD) (b : Ref sig .tc) (Z : b.ty.Contents (Elt F)) : sProp 𝕄 :=
  owns (Ix := Unit) (Name := ℕ) (U := UU) (Lvl := ℕ) (c : Thread nD τ) (Memref.whole b) fullShare Z

set_option maxRecDepth 4000 in
def bodyPre (c : Dev nD) : sProp 𝕄 :=
  iprop(before m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(done c ∗ (dats m ρ 0 c).owesAt () t0_0.succ ∗ stg c cc0_stg0_0 (argA m ρ c) ∗ stg c cc0_stg1_0 (argB m ρ c) ∗ stg c cc0_stg2_0 (result m ρ c))

set_option maxRecDepth 4000 in
theorem before_A (c : Dev nD) (d) : (dats m ρ 0 c).before (0 : Fin 3) t0_0 d = argA m ρ c := by
  unfold Dat.before; rw [if_pos (fetch0_0 t0_0)]; rfl
set_option maxRecDepth 4000 in
theorem before_B (c : Dev nD) (d) : (dats m ρ 0 c).before (1 : Fin 3) t0_0 d = argB m ρ c := by
  unfold Dat.before; rw [if_pos (fetch0_1 t0_0)]; rfl

/-- A device that reads its own number goes on with it. -/
theorem wp_number (c : Dev nD) {α : Type} {Q : α → sProp 𝕄} (k : Dev nD → P F α) : WP c (Prog.lift (TpuEff.deviceId) >>= k) Q = WP c (k c) Q :=
  wp_deviceId 𝒱₀ (c : Thread nD τ) none Set.univ (k := k)

set_option maxRecDepth 4000 in
theorem body_spec (c : Dev nD) : bodyPre m ρ c ⊢ WP c (body (F := F)) (fun _ => bodyPost m ρ c) := by
  unfold body
  rw [wp_number]
  refine BIBase.Entails.trans ?_ (wp_fupd _ _ _ _ _)
  unfold bodyPre bodyPost before start ghost done
  simp only [before_A, before_B]
  iintro ⟨⟨⟨⟨%K, #HR, Hpl, Hri⟩, Hcr, #Hlev⟩, Hsc⟩, Ho, ⟨%d0, Ha⟩, ⟨%d1, Hb⟩, ⟨%d2, Hc⟩⟩
  unfold Dat.owesAt Pipeline.owesWithin
  icases Ho with ⟨%W, %hW, HO⟩
  have hctx : iprop(records (argA m ρ) (argB m ρ) K ∗ levAts L lv) ⊢ (ctx (argA m ρ) (argB m ρ) K : sProp 𝕄) := Entails.of_eq rfl
  ihave #Hctx := hctx $$ []
  · isplitr
    · iexact HR
    · iexact Hlev
  iapply (after_spec (X := argA m ρ) (Y := argB m ρ) (K := K) c)
  isplitr; · iexact Hctx
  isplitl [HO]; · unfold Ow; iexists W; iexact HO
  isplitl [Hcr]; · iexact Hcr
  isplitl [Hpl]; · iexact Hpl
  isplitl [Hri]; · iexact Hri
  isplitl [Ha Hb]
  · unfold staged
    isplitl [Ha]; · iexact Ha
    iexact Hb
  isplitl [Hc]; · iapply (ownsSat_intro (c : Thread nD τ) oM fullShare (Φ := fun _ => True) trivial) $$ Hc
  isplitl [Hsc]; · iexact Hsc
  iintro ⟨HO, Hend, Hst, Hout, Hsc⟩
  imod (close (argA m ρ) (argB m ρ) K c) $$ [Hend] with Hz
  · isplitr; · iexact Hctx
    iexact Hend
  imodintro
  unfold staged Ow
  icases Hst with ⟨Ha, Hb⟩
  icases HO with ⟨%W', HO⟩
  isplitl [Hsc Hz]
  · isplitl [Hsc] <;> iassumption
  isplitl [HO]
  · iexists W'
    isplitr; · ipureintro; exact fun _ _ => Or.inl trivial
    iexact HO
  isplitl [Ha]; · iexact Ha
  isplitl [Hb]; · iexact Hb
  iexact Hout

set_option maxRecDepth 20000 in
/-- The library's obligation for the body. -/
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ WP c (cc0_body (F := F) aM (Memref.isWhole_whole _) bM (Memref.isWhole_whole _) oM (Memref.isWhole_whole _) pM (Memref.isWhole_whole _) rM (Memref.isWhole_whole _) gM (Memref.isWhole_whole _) xM (Memref.isWhole_whole _) yM (Memref.isWhole_whole _) cc0_scratch5 cc0_scratch6 cc0_scratch7 cc0_scratch8) (fun _ => bodyPost m ρ c)
  rw [body_eq]
  exact body_spec m ρ c

/-! ## The tokens -/

def osem (t : T) : SemLoc sig := .dma (dq t)

set_option maxRecDepth 8000 in
theorem ownSemFacts : Pipeline.OwnSemFacts cfg0.spec osem :=
  ⟨by decide +kernel, fun a b h => dq_injective (by injection h), by decide +kernel⟩

theorem share_eq (c : Dev nD) (w : Fin cfg0.W) : (dats m ρ 0 c).share w = fullShare := by unfold Dat.share; split <;> rfl

/-- The protocol's cells, and a token for each of their duties. -/
def allCells : Finset (GSem nD τ sig) := Finset.univ.map ⟨key, key_injective⟩
theorem duty_injective : Function.Injective fun x : (Dev nD × Option T) × Fin 3 => ((key x.1, 0, x.2) : GSem nD τ sig × ℕ × Fin 3) := by
  rintro ⟨a, i⟩ ⟨b, j⟩ h
  have h1 : a = b := key_injective (congrArg Prod.fst h)
  have h2 : i = j := congrArg (fun x : GSem nD τ sig × ℕ × Fin 3 => x.2.2) h
  rw [h1, h2]
def allToks : Finset (GSem nD τ sig × ℕ × Fin 3) := Finset.univ.map ⟨_, duty_injective⟩

def u₀ : UU := (initOf (Pipeline.cells cfgs cellOf_inj) (Pipeline.launchToks cfgs cellOf_inj), initOf allCells allToks)

/-- The tokens of the duties of a device's own cells. -/
def minted (c : Dev nD) : sProp 𝕄 := bigSep Finset.univ fun o : Option T => bigSep Finset.univ fun i : Fin 3 => tok (key (c, o)) i

/-- What the launch deals device `c` of the protocol. -/
def G (c : Dev nD) : sProp 𝕄 :=
  iprop((bigSep Finset.univ fun o : Option T => roundState ER (Rd (argA m ρ) (argB m ρ)) (key (c, o)) 0)
    ∗ (bigSep Finset.univ fun o : Option T => reached ER (key (c, o)) 0) ∗ places c ∗ minted c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun o : Option T => Φ (key (c, o)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod, bigSep_univ_prod]; rfl
  refine (Rounds.fund ER (Rd (argA m ρ) (argB m ρ)) allCells allToks).trans (BI.bupd_mono ?_)
  rw [hX, hX, hX, hT, ← bigSep_sep', ← bigSep_sep', ← bigSep_sep']
  refine bigSep_mono fun c _ => ?_
  unfold G
  rw [places_eq]
  exact BI.Entails.refl _

/-- The tokens of one kind of cell, from the cells' owners to the devices that pay. -/
theorem around_R (g : Fin 4) : (bigSep Finset.univ fun c : Dev nD => allG fun h => tokS c g h : sProp 𝕄) = bigSep Finset.univ fun c : Dev nD => allG fun h => tokR c g h := by
  unfold tokS tokR
  rw [bigSep_univ_comm, bigSep_univ_comm (fun (c : Dev nD) (h : Fin 4) => bigSep Finset.univ fun j : Fin 3 => tok (cell (tgt c j) (g, h, j)) 0)]
  refine bigSep_congr fun h _ => ?_
  rw [bigSep_univ_comm, bigSep_univ_comm (fun (c : Dev nD) (j : Fin 3) => tok (cell (tgt c j) (g, h, j)) 0)]
  exact bigSep_congr fun j _ => bigSep_univ_equiv (turn j) fun c : Dev nD => (tok (cell c (g, h, j)) 0 : sProp 𝕄)
theorem around_bar : (bigSep Finset.univ fun c : Dev nD => bigSep Finset.univ fun i : Fin 3 => tok (barCell c) i : sProp 𝕄)
    = bigSep Finset.univ fun c : Dev nD => bigSep Finset.univ fun j : Fin 3 => tok (barCell (tgt c j)) j.rev := by
  rw [bigSep_univ_comm, bigSep_univ_comm (fun (c : Dev nD) (j : Fin 3) => tok (barCell (tgt c j)) j.rev), bigSep_univ_equiv Fin.revPerm]
  exact bigSep_congr fun j _ => bigSep_univ_equiv (turn j) fun c : Dev nD => (tok (barCell c) j.rev : sProp 𝕄)

/-- The tokens of a device's own cells that are duties, by the cells' kind. -/
theorem minted_kinds (c : Dev nD) : (minted c : sProp 𝕄) ⊢ iprop((bigSep Finset.univ fun i : Fin 3 => tok (barCell c) i)
    ∗ allG (fun h => tokS c 0 h) ∗ allG (fun h => tokS c 1 h) ∗ allG (fun h => tokS c 2 h) ∗ allG (fun h => tokS c 3 h)) := by
  unfold minted
  rw [bigSep_keys, bigSep_four]
  have h (g : Fin 4) : (allG fun h : Fin 4 => bigSep Finset.univ fun j : Fin 3 => bigSep Finset.univ fun i : Fin 3 => (tok (key (c, some (g, h, j))) i : sProp 𝕄)) ⊢ allG fun h => tokS c g h :=
    bigSep_mono fun h _ => bigSep_mono fun j _ => bigSep_elim (Φ := fun i : Fin 3 => (tok (key (c, some (g, h, j))) i : sProp 𝕄)) (Finset.mem_univ (0 : Fin 3))
  exact BIClass.sep_mono BIBase.Entails.refl (BIClass.sep_mono (h 0) (BIClass.sep_mono (h 1) (BIClass.sep_mono (h 2) (h 3))))

theorem toks_around : (bigSep Finset.univ fun c : Dev nD => (minted c : sProp 𝕄)) ⊢ bigSep Finset.univ fun c : Dev nD => rights c := by
  refine (bigSep_mono fun c _ => minted_kinds c).trans ?_
  unfold rights
  simp only [bigSep_sep']
  rw [around_bar, around_R 1, around_R 3]
  exact BI.Entails.refl _

/-! ## The invariants -/

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem zeros_eq (c : Dev nD) : (zeros c : sProp 𝕄) = iprop(unscopedSems0 c ∗ Pipeline.ownSems0 (Ix := Unit) (Name := ℕ) (U := UU) (Lvl := ℕ) (Val := Elt F) (τ := τ) osem c) := by
  unfold zeros
  rw [bigSep_option, unscopedSems0_eq]; rfl

theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o : Option T => iprop(∃ κ : ℕ, cellInv ER (Rd (argA m ρ) (argB m ρ)) κ (key (c, o))))
          ∗ (bigSep Finset.univ fun o : Option T => reached ER (key (c, o)) 0) ∗ places c ∗ minted c) := by
  unfold G
  iintro ⟨Hos, Hus, Hst, Hr, Hat, Htok⟩
  ihave Hz := (Entails.of_eq (zeros_eq c).symm) $$ [Hos Hus]
  · isplitl [Hus] <;> iassumption
  imod (show iprop(zeros c ∗ bigSep Finset.univ fun o : Option T => roundState ER (Rd (argA m ρ) (argB m ρ)) (key (c, o)) 0)
      ⊢ (|={Set.univ}=> bigSep Finset.univ fun o : Option T => iprop(∃ κ : ℕ, cellInv ER (Rd (argA m ρ) (argB m ρ)) κ (key (c, o))) : sProp 𝕄) from by
        unfold zeros
        rw [← bigSep_sep']
        exact (bigSep_mono fun o _ => (Rounds.body_intro ER (Rd (argA m ρ) (argB m ρ)) (key (c, o))).trans inv_alloc).trans (bigSep_fupd _ _)) $$ [Hz Hst] with Hinv
  · isplitl [Hz] <;> iassumption
  imodintro
  isplitl [Hinv]; · iexact Hinv
  isplitl [Hr]; · iexact Hr
  isplitl [Hat]; · iexact Hat
  iexact Htok

theorem regroup :
    (bigSep Finset.univ fun c : Dev nD => iprop((bigSep Finset.univ fun o : Option T => iprop(∃ κ : ℕ, cellInv ER (Rd (argA m ρ) (argB m ρ)) κ (key (c, o))))
          ∗ (bigSep Finset.univ fun o : Option T => reached ER (key (c, o)) 0) ∗ places c ∗ minted c) : sProp 𝕄)
      ⊢ bigSep Finset.univ (ghost m ρ) := by
  rw [bigSep_sep', bigSep_sep', bigSep_sep', ← bigSep_univ_prod (fun ck : Dev nD × Option T => iprop(∃ κ : ℕ, cellInv ER (Rd (argA m ρ) (argB m ρ)) κ (key ck))),
    ← bigSep_univ_prod (fun ck : Dev nD × Option T => (reached ER (key ck) 0 : sProp 𝕄))]
  have hg (K : Dev nD × Option T → ℕ) (c : Dev nD) : iprop(records (argA m ρ) (argB m ρ) K ∗ places c ∗ rights c) ⊢ ghost m ρ c := by
    unfold ghost; iintro H; iexists K; iexact H
  iintro ⟨HI, #HR, Hat, Htok⟩
  ihave HK := (BI.bigSep_exists_pi Finset.univ (fun (ck : Dev nD × Option T) (κ : ℕ) => (cellInv ER (Rd (argA m ρ) (argB m ρ)) κ (key ck) : sProp 𝕄))) $$ HI
  icases HK with ⟨%K, #HI⟩
  ihave Htk := (toks_around (F := F)) $$ Htok
  iapply (bigSep_using (R := records (argA m ρ) (argB m ρ) K) (Φ := fun c => iprop(places c ∗ rights c)) fun c _ => hg K c)
  isplitr
  · unfold records; isplitl; · iexact HI
    iexact HR
  · iapply (Entails.of_eq (bigSep_sep' Finset.univ (fun c : Dev nD => (places c : sProp 𝕄)) (fun c => rights c)).symm)
    isplitl [Hat]; · iexact Hat
    iexact Htk

/-- All devices' invariants at once, their semaphores given for them. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => alloc m ρ c).trans (bigSep_fupd _ _)).trans (BI.fupd_mono (regroup m ρ))

/-! ## The credit -/

namespace It
/-- An item is owed to cell `home` of the device at distance `dist + 1`. -/
def dist : It → Fin 3
  | bar j => j
  | rs _ j => j
  | ag _ j => j
def home : It → Option T
  | bar _ => none
  | rs h j => some (1, h, j)
  | ag h j => some (3, h, j)
theorem cell_key (d : Dev nD) (x : It) : x.cell d = key (tgt d x.dist, x.home) := by cases x <;> rfl
end It

/-- What a list of items brings the cells named `o`. -/
def due (o : Option T) (l : List It) : ℕ := l.foldr (fun x a => a + if x.home = o then x.amt else 0) 0

theorem owed_all (c : Dev nD) (o : Option T) (l : List It) : ∑ d : Dev nD, OL d l (key (c, o)) () = due o l := by
  induction l with
  | nil => exact Finset.sum_eq_zero fun _ _ => rfl
  | cons x l ih =>
    have h (d : Dev nD) : OL d (x :: l) (key (c, o)) () = OL d l (key (c, o)) () + if x.home = o ∧ tgt d x.dist = c then x.amt else 0 := by
      rw [OL_cons, Pi.add_apply, Finsupp.add_apply, tallyAt_apply, It.cell_key]
      congr 1
      by_cases hx : x.home = o ∧ tgt d x.dist = c
      · rw [if_pos hx, if_pos ⟨by rw [hx.1, hx.2], rfl⟩]
      · rw [if_neg hx, if_neg]
        rintro ⟨h, -⟩
        have := key_injective h
        exact hx ⟨(congrArg Prod.snd this).symm, (congrArg Prod.fst this).symm⟩
    rw [Finset.sum_congr rfl fun d _ => h d, Finset.sum_add_distrib, ih]
    show _ = due o l + _
    congr 1
    rw [Finset.sum_eq_single (tgt c x.dist.rev)]
    · rw [tgt_rev']; simp
    · intro d _ hd
      rw [if_neg]
      rintro ⟨-, rfl⟩
      exact hd (tgt_rev d x.dist).symm
    · intro h; exact absurd (Finset.mem_univ _) h

theorem due_bar : due none its = 3 := by decide +kernel
theorem due_rs : ∀ (h : Fin 4) (j : Fin 3), due (some (1, h, j)) its = N := by decide +kernel
theorem due_ag : ∀ (h : Fin 4) (j : Fin 3), due (some (3, h, j)) its = N := by decide +kernel

theorem launch_key (c : Dev nD) (o : Option T) :
    tallyOn (key (c, o)) (launchCredit (Pipeline.owing fun c => OL c its) 0 (key (c, o))) = (tallyAt (key (c, o)) () (due o its) : CellTallies nD τ sig Unit) := by
  unfold tallyAt; refine congrArg _ (Finsupp.ext fun u => ?_); cases u
  rw [Pipeline.launchCredit_owing, Finsupp.single_eq_same, owed_all]

theorem creds_intro (c : Dev nD) : (Pipeline.launchCred (fun c => OL c its) c : sProp 𝕄) ⊢ creds c := by
  unfold Pipeline.launchCred creds
  refine (bigSep_subset (Finset.subset_univ (Finset.univ.map ⟨sem, sem_injective⟩))).trans ?_
  rw [bigSep_map]
  refine (Entails.of_eq (bigSep_congr fun o _ => show _ = (cred (tallyAt (key (c, o)) () (due o its)) : sProp 𝕄) by
    rw [← launch_key, key_eq]; rfl)).trans ?_
  rw [bigSep_keys, bigSep_four, due_bar]
  simp only [due_rs, due_ag]
  iintro ⟨H, -, H1, -, H3⟩
  isplitl [H]; · iexact H
  isplitl [H1]; · iexact H1
  iexact H3

/-! ## The run -/

theorem start_intro (c : Dev nD) :
    iprop(Pipeline.unscopedRestP Pipeline.Prefetch.none cfg0.spec c (fun b => m ((c : Thread nD τ).loc b)) ∗ levAts L lv
        ∗ Pipeline.launchCred (fun c => OL c its) c ∗ prngReg c (ρ c) ∗ ghost m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

/-- A scratch buffer at some contents. -/
theorem any_eq (c : Dev nD) (b : Ref sig .tc) :
    (ownsSat (Ix := Unit) (Name := ℕ) (U := UU) (Lvl := ℕ) (Val := Elt F) (c : Thread nD τ) (Memref.whole b) fullShare (fun _ => True) : sProp 𝕄)
      = iprop(∃ f : Buf (Elt F) ((c : Thread nD τ).loc b), ⌜True⌝ ∗ ((c : Thread nD τ).loc b) ↦{fullShare} f) := by
  unfold ownsSat; simp only [Memref.view_whole, View.set_whole]
theorem any_rest (c : Dev nD) (b : Ref sig .tc) :
    (ownsSat (Ix := Unit) (Name := ℕ) (U := UU) (Lvl := ℕ) (Val := Elt F) (c : Thread nD τ) (Memref.whole b) fullShare (fun _ => True) : sProp 𝕄)
      ⊢ iprop(∃ f : Buf (Elt F) ((c : Thread nD τ).loc b), ((c : Thread nD τ).loc b) ↦{fullShare} f) := by
  rw [any_eq]; iintro ⟨%f, -, H⟩; iexists f; iexact H
theorem any_intro (c : Dev nD) (b : Ref sig .tc) :
    iprop(∃ f : Buf (Elt F) ((c : Thread nD τ).loc b), ((c : Thread nD τ).loc b) ↦{fullShare} f)
      ⊢ (ownsSat (Ix := Unit) (Name := ℕ) (U := UU) (Lvl := ℕ) (Val := Elt F) (c : Thread nD τ) (Memref.whole b) fullShare (fun _ => True) : sProp 𝕄) := by
  rw [any_eq]; iintro ⟨%f, H⟩; iexists f; isplitr; · ipureintro; trivial
  iexact H

theorem scratch_intro (c : Dev nD) : (Pipeline.scopedRest cfg0.spec c : sProp 𝕄) ⊢ scratch c := by
  rw [scopedRest0_eq]
  exact BIClass.sep_mono (any_intro c _) (BIClass.sep_mono (any_intro c _) (BIClass.sep_mono (any_intro c _) (BIClass.sep_mono (any_intro c _) (any_intro c _))))
theorem scratch_exit (c : Dev nD) : (scratch c : sProp 𝕄) ⊢ Pipeline.scopedRest cfg0.spec c := by
  rw [scopedRest0_eq]
  exact BIClass.sep_mono (any_rest c _) (BIClass.sep_mono (any_rest c _) (BIClass.sep_mono (any_rest c _) (BIClass.sep_mono (any_rest c _) (any_rest c _))))

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl]
  unfold before
  iintro ⟨Hs, -, Hr⟩
  isplitl [Hs]; · iexact Hs
  iapply (scratch_intro c); iexact Hr

theorem exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from rfl]
  unfold done
  rw [zeros_eq]
  iintro ⟨Hr, HB, HO⟩
  isplitl [HB]; · iexact HB
  isplitl [HO]; · iexact HO
  iapply (scratch_exit c); iexact Hr

theorem lev_its : ∀ x ∈ its, 0 < x.lev := by decide

/-- A device may wait on a staging copy at any time. -/
theorem mayWait_stage (c : Dev nD) (q : DmaSem sig) (hq : lev (.dma q) = 0) (O : CellTallies nD τ sig Unit) (hO : O = OL c its ∨ O = 0) :
    (levAts L lv : sProp 𝕄) ⊢ MayWait (c : Thread nD τ) (.dma q) () O := by
  rcases hO with rfl | rfl
  · exact mayWait c (.dma q) its fun x hx => by rw [hq]; exact lev_its x hx
  · exact mayWait c (.dma q) [] fun x hx => absurd hx List.not_mem_nil

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

/-- What every final state of the memory satisfies. -/
def Post (r : PUnit × MemSt nD τ sig (Elt F)) : Prop :=
  ∀ c : Dev nD, ∀ w : Fin cfg0.W, r.2.mem ((cfg0.win w).arr.view.loc (c : Thread nD τ)) = finalA m ρ c w

set_option maxRecDepth 8000 in
/-- From any memory with zero counters every fair execution ends, on the four devices, with the windows' arrays at
    the computed contents and every counter at zero. -/
theorem run_main : θ_run defs (onTc (τ := τ) (main (F := F))) (s₀ m ρ) (fun r => Post m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => OL c its) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays end as they were. -/
theorem finalA_A (c : Dev nD) : finalA m ρ c (0 : Fin 3) = (s₀ m ρ).mem (win0_0.arr.view.loc (c : Thread nD τ)) :=
  (dats (F := F) m ρ 0 c).arrAt_in (0 : Fin 3) rfl _
theorem finalA_B (c : Dev nD) : finalA m ρ c (1 : Fin 3) = (s₀ m ρ).mem (win0_1.arr.view.loc (c : Thread nD τ)) :=
  (dats (F := F) m ρ 0 c).arrAt_in (1 : Fin 3) rfl _

end Cert.KProof

end
-- ==== Proof.Value.lean ====
/-
# The value of the result, over the reals

Each device's product of its two blocks is a sum over 256 of the 1024 positions that the whole product contracts, and a
block of rows adds the four devices' sums. Over the reals the order of these additions and the narrowing of the partial
products change nothing, so every device ends with the whole product.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pipeline.Value
public import Idealize.ShloMosaic.Lib.Pipeline.ValueKit.Acc

@[expose] public section

noncomputable section

namespace Cert.KProof

open Cert.KernelIdeal Cert.KernelIdeal.Gen
open Idealize.ShloMosaic
open Idealize.ShloMosaic.TcCoe
open Idealize.ShloMosaic.ValueIdx (ix2 eq_ix2)
open Idealize.SL.Sem
open scoped BigOperators

/-! ## The arrays as the windows read them -/

section Windows

variable {F : FTy → Type} [FloatOps F] (m : (ℓ : Loc nD τ sig) → Buf (Elt F) ℓ) (ρ : Dev nD → PrngReg)

/-- Each argument's one window is the whole array. -/
theorem argA_eq (c : Dev nD) : argA m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
theorem argB_eq (c : Dev nD) : argB m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- The result's array ends at what the body left, which is written back whole. -/
theorem finalA_result (c : Dev nD) : finalA m ρ c (2 : Fin 3) = result m ρ c := by
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_2.blk (0 : Fin 1)).view.read (Elt F) (finalA m ρ c (2 : Fin 3)) = result m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (hr _).symm.trans ho

end Windows

/-! ## Sums over the reals -/

section Reals

variable (X : Dev nD → Vec Ideal S512x256 .f32) (Y : Dev nD → Vec Ideal S256x512 .f32)

/-- What device `c` contributes to row `i` and column `j` of the product. -/
def share (c : Dev nD) (i j : Fin 512) : EReal := ∑ k : Fin 256, X c (ix2 i k) * Y c (ix2 k j)

/-- Column `l` of column group `h`, and row `l` of row block `h`. -/
def at4 (h : Fin 4) (l : Fin 128) : Fin 512 := ⟨128 * h.val + l.val, by omega⟩

theorem colR_emb (h : Fin 4) (k : Fin 256) (l : Fin 128) : (colR h).emb (ix2 k l) = ix2 k (at4 h l) := by
  funext a; apply Fin.ext
  match a with
  | ⟨0, _⟩ => show 0 + 1 * k.val = k.val; omega
  | ⟨1, _⟩ => show 128 * h.val + 1 * l.val = 128 * h.val + l.val; omega
theorem rowR_emb (r : Fin 4) (k l : Fin 128) : (rowR r).emb (ix2 k l) = ix2 (at4 r k) l := by
  funext a; apply Fin.ext
  match a with
  | ⟨0, _⟩ => show 128 * r.val + 1 * k.val = 128 * r.val + k.val; omega
  | ⟨1, _⟩ => show 0 + 1 * l.val = l.val; omega
theorem blkR_emb (r h : Fin 4) (k l : Fin 128) : (blkR r h).emb (ix2 k l) = ix2 (at4 r k) (at4 h l) := by
  funext a; apply Fin.ext
  match a with
  | ⟨0, _⟩ => show 128 * r.val + 1 * k.val = 128 * r.val + k.val; omega
  | ⟨1, _⟩ => show 128 * h.val + 1 * l.val = 128 * h.val + l.val; omega

/-- A product into zeros at an index. -/
theorem pay3_apply (a : Vec Ideal S512x256 .bf16) (b : Vec Ideal S256x128 .bf16) (i : Fin 512) (l : Fin 128) :
    k0_pay3 (F := Ideal) a b (ix2 i l) = ∑ k : Fin 256, (show EReal from a (ix2 i k)) * (show EReal from b (ix2 k l)) := by
  unfold k0_pay3
  dsimp only
  rw [shapeCast_self]
  refine (Ideal.matmul_plain_apply (M := 512) (K := 256) (N := 128) (φ₁ := .bf16) (φ₂ := .bf16) none a b (constant S512x128 .f32 0x00000000#32) i l).trans ?_
  rw [ValueIdx.constant_apply, Ideal.ofBits_zero_f32, zero_add]

theorem part_apply (c : Dev nD) (h : Fin 4) (i : Fin 512) (l : Fin 128) : part X Y c h (ix2 i l) = share X Y c i (at4 h l) := by
  unfold part share
  rw [pay3_apply]
  refine Finset.sum_congr rfl fun k _ => ?_
  rw [colR_emb]
  unfold k0_pay1 k0_pay2
  dsimp only
  rw [shapeCast_self, shapeCast_self, shapeCast_self, shapeCast_self]
  rfl

/-- The owner and the three others are the four devices. -/
theorem sum_ring (f : Dev nD → EReal) (c : Dev nD) : ((f c + f (tgt c 2)) + f (tgt c 1)) + f (tgt c 0) = ∑ d : Dev nD, f d := by
  have h : ∀ g : Fin 4 → EReal, ∑ d, g d = ((g 0 + g 1) + g 2) + g 3 := fun g => Fin.sum_univ_four g
  rw [h f]
  fin_cases c
  · show ((f 0 + f 3) + f 2) + f 1 = _
    ac_rfl
  · show ((f 1 + f 0) + f 3) + f 2 = _
    ac_rfl
  · show ((f 2 + f 1) + f 0) + f 3 = _
    ac_rfl
  · show ((f 3 + f 2) + f 1) + f 0 = _
    ac_rfl

theorem pblk_apply (c : Dev nD) (r h : Fin 4) (k l : Fin 128) : pblk X Y c r h (ix2 k l) = share X Y c (at4 r k) (at4 h l) := by
  unfold pblk
  rw [rowR_emb, part_apply]

theorem total_apply (c : Dev nD) (h : Fin 4) (k l : Fin 128) :
    total X Y c h (ix2 k l) = ∑ d : Dev nD, share X Y d (at4 c k) (at4 h l) := by
  rw [← sum_ring _ c, ← pblk_apply, ← pblk_apply, ← pblk_apply, ← pblk_apply]
  rfl

/-- Narrowing and widening a sum leaves it as it is. -/
theorem wide_totalB (c : Dev nD) (h : Fin 4) : wide (totalB X Y c h) = total X Y c h := by
  unfold wide totalB
  rw [shapeCast_self]
  rfl

theorem outblk_eq (c : Dev nD) (r h : Fin 4) : outblk X Y c r h = total X Y r h := by
  unfold outblk
  split
  · next e => rw [e]
  · exact wide_totalB X Y r h

theorem outAt_apply (c : Dev nD) (i j : Fin 512) : outAt X Y c (ix2 i j) = ∑ d : Dev nD, share X Y d i j := by
  have hi : at4 ⟨i.val / 128, by omega⟩ ⟨i.val % 128, by omega⟩ = i := Fin.ext (by show 128 * (i.val / 128) + i.val % 128 = i.val; omega)
  have hj : at4 ⟨j.val / 128, by omega⟩ ⟨j.val % 128, by omega⟩ = j := Fin.ext (by show 128 * (j.val / 128) + j.val % 128 = j.val; omega)
  have key : ∀ (r h : Fin 4) (k l : Fin 128), outAt X Y c (ix2 (at4 r k) (at4 h l)) = ∑ d : Dev nD, share X Y d (at4 r k) (at4 h l) := by
    intro r h k l
    rw [← blkR_emb, ← total_apply, ← outblk_eq X Y c r h]
    exact Rect.glue_emb blkF blk_cover (fun t t' ht => blk_disjoint t t' ht) (fun t => outblk X Y c t.2 t.1) (h, r) (ix2 k l)
  rw [← hi, ← hj]
  exact key _ _ _ _

end Reals

/-! ## Against the whole product -/

/-- On every device the result is the product of the whole arrays of which the devices hold the blocks. -/
theorem result_eq (m : (ℓ : Loc nD τ sig) → Buf (Elt Ideal) ℓ) (ρ : Dev nD → PrngReg)
    (A : FVec Ideal ⟨2, ![512, 1024]⟩ .f32) (B : FVec Ideal ⟨2, ![1024, 512]⟩ .f32)
    (hA : ∀ c : Dev nD, m ((c : Thread nD τ).loc main_arg0) = Layout.block ⟨2, ![512, 256]⟩ ⟨2, ![512, 1024]⟩ 1 4 c A)
    (hB : ∀ c : Dev nD, m ((c : Thread nD τ).loc main_arg1) = Layout.block ⟨2, ![256, 512]⟩ ⟨2, ![1024, 512]⟩ 0 4 c B) (c : Dev nD) :
    result m ρ c = Host.dotGeneral (DotDims.plain 512 1024 512) none A B := by
  funext i
  rw [eq_ix2 i]
  refine (outAt_apply _ _ c (i 0) (i 1)).trans (Eq.trans ?_ (StackMember.dotGeneral_plain_apply none A B (i 0) (i 1)).symm)
  refine Fin.sum_mul_add_congr (S := 4) (n := 256) fun d k hl => ?_
  rw [argA_eq, argB_eq, hA d, hB d, Layout.block_apply, Layout.block_apply]
  refine congrArg₂ (· * ·) (congrArg A (funext fun a => Fin.ext ?_)) (congrArg B (funext fun a => Fin.ext ?_))
  · match a with
    | ⟨0, _⟩ => rfl
    | ⟨1, _⟩ => rfl
  · match a with
    | ⟨0, _⟩ => rfl
    | ⟨1, _⟩ => rfl

end Cert.KProof

end
-- ==== Proof.lean ====
/-
# The certificate

The three frames, the equality of the two kernels' texts and the algebraic claim. The run of the kernel is in
Proof/Launch.lean, over any float values; its result over the reals is in Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Lib.Tactic
public import Idealize.ShloMosaic.Adequacy
public import Idealize.ShloMosaic.Init

@[expose] public section

noncomputable section

namespace Cert.Proof

open Idealize.ShloMosaic Idealize.SL.Sem Cert.Kernel

/-- The idealized kernel leaves its arguments as they were and every counter at zero. -/
theorem frame_ideal : Cert.quiescent_KernelIdeal := fun m ρ _ =>
  (θ_run Cert.KernelIdeal.defs _ _).mono
    (fun _ h => ⟨fun c => ⟨(h.1 c (0 : Fin 3)).trans (Cert.KProof.finalA_A m ρ c), (h.1 c (1 : Fin 3)).trans (Cert.KProof.finalA_B m ρ c)⟩, h.2⟩)
    (Cert.KProof.run_main (F := Ideal) m ρ)

/-- What the frame says of the idealized kernel's text at the chip's values. -/
def frameBits : Prop :=
  ∀ (m : (ℓ : Loc Cert.KernelIdeal.nD Cert.KernelIdeal.τ Cert.KernelIdeal.sig) → Buf (Elt Bits) ℓ) (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem frameBits_holds : frameBits := fun m ρ _ =>
  (θ_run Cert.KernelIdeal.defs _ _).mono
    (fun _ h => ⟨fun c => ⟨(h.1 c (0 : Fin 3)).trans (Cert.KProof.finalA_A m ρ c), (h.1 c (1 : Fin 3)).trans (Cert.KProof.finalA_B m ρ c)⟩, h.2⟩)
    (Cert.KProof.run_main (F := Bits) m ρ)

/-- The kernel as printed is the idealized kernel's text, so its frame is the same statement. -/
theorem frameBits_eq : frameBits = Cert.quiescent_Kernel := by sl_kernel_rfl

theorem frame_kernel : Cert.quiescent_Kernel := frameBits_eq.mp frameBits_holds

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals every device of the kernel ends with the reference's product. -/
theorem algebraic : Cert.algebraic_KernelIdeal_ReferenceIdeal := fun m ρ m' ρ' _ hagree =>
  ⟨_, (θ_run Cert.KernelIdeal.defs _ _).mono
      (fun _ h c => ⟨(h.1 c (2 : Fin 3)).trans ((Cert.KProof.finalA_result m ρ c).trans
          (Cert.KProof.result_eq m ρ _ _ (fun d => (hagree d).1) (fun d => (hagree d).2) c)),
        (h.1 c (0 : Fin 3)).trans (Cert.KProof.finalA_A m ρ c), (h.1 c (1 : Fin 3)).trans (Cert.KProof.finalA_B m ρ c)⟩)
      (Cert.KProof.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
